-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x8192x256 : Shape := ⟨3, ![8, 8192, 256]⟩
abbrev S2x32 : Shape := ⟨2, ![2, 32]⟩
abbrev S32 : Shape := ⟨1, ![32]⟩
abbrev S32x25 : Shape := ⟨2, ![32, 25]⟩
abbrev S25 : Shape := ⟨1, ![25]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x25 : S_.BroadcastsInDim S32x25 (![] : Fin 0 → Fin S32x25.rank)
  reducesTo_S32x25_S_d0_1 : S32x25.ReducesTo [0, 1] S_
  bcast_S_S25 : S_.BroadcastsInDim S25 (![] : Fin 0 → Fin S25.rank)
  reducesTo_S25_S_d0 : S25.ReducesTo [0] S_

variable [Facts]

def fn_part1 {F : FTy → Type} [FloatOps F] (main_arg4 : FVec F S25 .f32) (main_v13 : IVec S_ 1) (main_v16 : IVec S32x25 1) : IVec S_ 1 :=
  let main_c_5 : IVec S_ 1 := constantI S_ 1 1#1
  let main_v17 : IVec S_ 1 := (fun x v => Host.reduce IntOp.andi x v reducesTo_S32x25_S_d0_1 h_S_) main_v16 main_c_5
  let main_v18 : IVec S_ 1 := andi main_v13 main_v17
  let main_v19 : FVec F S25 .f32 := Host.absf main_arg4
  let main_cst_6 : FVec F S_ .f32 := constant S_ .f32 0x7F800000#32
  let main_v20 : FVec F S25 .f32 := broadcastInDim S25 ![] bcast_S_S25 main_cst_6
  let main_v21 : IVec S25 1 := cmpf .olt main_v19 main_v20
  let main_c_7 : IVec S_ 1 := constantI S_ 1 1#1
  let main_v22 : IVec S_ 1 := (fun x v => Host.reduce IntOp.andi x v reducesTo_S25_S_d0 h_S_) main_v21 main_c_7
  let main_v23 : IVec S_ 1 := andi main_v18 main_v22
  main_v23

def fn {F : FTy → Type} [FloatOps F] (main_arg0 : FVec F S8x8192x256 .f32) (main_arg1 : FVec F S2x32 .f32) (main_arg2 : FVec F S32 .f32) (main_arg3 : FVec F S32x25 .f32) (main_arg4 : FVec F S25 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S2x32 .f32 := Host.absf main_arg1
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x25 .f32 := Host.absf main_arg3
  let main_cst_4 : FVec F S_ .f32 := constant S_ .f32 0x7F800000#32
  let main_v15 : FVec F S32x25 .f32 := broadcastInDim S32x25 ![] bcast_S_S32x25 main_cst_4
  let main_v16 : IVec S32x25 1 := cmpf .olt main_v14 main_v15
  fn_part1 (F := F) main_arg4 main_v13 main_v16
-- ==== Kernel.lean ====
abbrev S8x8192x256 : Shape := ⟨3, ![8, 8192, 256]⟩
abbrev S2x32 : Shape := ⟨2, ![2, 32]⟩
abbrev S32 : Shape := ⟨1, ![32]⟩
abbrev S32x25 : Shape := ⟨2, ![32, 25]⟩
abbrev S25 : Shape := ⟨1, ![25]⟩
abbrev S1x8192x256 : Shape := ⟨3, ![1, 8192, 256]⟩
abbrev S1x256 : Shape := ⟨2, ![1, 256]⟩
abbrev S1x512x256 : Shape := ⟨3, ![1, 512, 256]⟩
abbrev S512x256 : Shape := ⟨2, ![512, 256]⟩
abbrev S256 : Shape := ⟨1, ![256]⟩
abbrev S1x1 : Shape := ⟨2, ![1, 1]⟩
abbrev S1 : Shape := ⟨1, ![1]⟩

abbrev nBuf : Space → Nat
  | .hbm => 6
  | .vmem => 4
  | .smem => 4
  | _ => 0

abbrev bufTy : (tb : Table) → Fin (tcTables nBuf tb) → BufTy
  | .hbm, ⟨0, _⟩ => ⟨S8x8192x256, .f32⟩
  | .hbm, ⟨1, _⟩ => ⟨S2x32, .f32⟩
  | .hbm, ⟨2, _⟩ => ⟨S32, .f32⟩
  | .hbm, ⟨3, _⟩ => ⟨S32x25, .f32⟩
  | .hbm, ⟨4, _⟩ => ⟨S25, .f32⟩
  | .hbm, ⟨5, _⟩ => ⟨S8x8192x256, .f32⟩
  | .local _ .vmem, ⟨0, _⟩ => ⟨S1x8192x256, .f32⟩
  | .local _ .vmem, ⟨1, _⟩ => ⟨S1x8192x256, .f32⟩
  | .local _ .vmem, ⟨2, _⟩ => ⟨S1x8192x256, .f32⟩
  | .local _ .vmem, ⟨3, _⟩ => ⟨S1x8192x256, .f32⟩
  | .local _ .smem, ⟨0, _⟩ => ⟨S2x32, .f32⟩
  | .local _ .smem, ⟨1, _⟩ => ⟨S32, .f32⟩
  | .local _ .smem, ⟨2, _⟩ => ⟨S32x25, .f32⟩
  | .local _ .smem, ⟨3, _⟩ => ⟨S25, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v4094 : BitVec 32 := Scalar.muli arg7 c512_i32
  v4094
def k0_off1 (k0_t1 : Fin k0_t1_loop.trips) : Fin 3 → Nat :=
  let c0_1868 : Index := 0#32
  let c0_i32 : BitVec 32 := 0#32
  let c1_i32 : BitVec 32 := 1#32
  let arg7 : BitVec 32 := Scf.iv c0_i32 c1_i32 k0_t1
  let c512_i32 : BitVec 32 := 512#32
  let v4094 : BitVec 32 := Scalar.muli arg7 c512_i32
  let v4095 : BitVec 32 := v4094
  let v4096 : Index := Scalar.indexCast v4095
  let c0_1869 : Index := 0#32
  ![0, v4096.toNat, 0]
@[reducible] def k0_t2_loop : Scf.Loop 32 :=
  let c0_i32_1864 : BitVec 32 := 0#32
  let c16_i32_1865 : BitVec 32 := 16#32
  let v4093 : BitVec 32 := Scalar.addi c0_i32_1864 c16_i32_1865
  let c1_i32_1866 : BitVec 32 := 1#32
  ⟨c0_i32_1864, v4093, c1_i32_1866⟩
def k0_mult2 (k0_t2 : Fin k0_t2_loop.trips) : BitVec 32 :=
  let c0_i32_1864 : BitVec 32 := 0#32
  let c1_i32_1866 : BitVec 32 := 1#32
  let arg7 : BitVec 32 := Scf.iv c0_i32_1864 c1_i32_1866 k0_t2
  let c512_i32 : BitVec 32 := 512#32
  let v4094 : BitVec 32 := Scalar.muli arg7 c512_i32
  v4094
def k0_off2 (k0_t2 : Fin k0_t2_loop.trips) : Fin 3 → Nat :=
  let c0_1868 : Index := 0#32
  let c0_i32_1864 : BitVec 32 := 0#32
  let c1_i32_1866 : BitVec 32 := 1#32
  let arg7 : BitVec 32 := Scf.iv c0_i32_1864 c1_i32_1866 k0_t2
  let c512_i32 : BitVec 32 := 512#32
  let v4094 : BitVec 32 := Scalar.muli arg7 c512_i32
  let v4095 : BitVec 32 := v4094
  let v4096 : Index := Scalar.indexCast v4095
  let c0_1869 : Index := 0#32
  ![0, v4096.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S32x25 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S25 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x8192x256 : Shape := ⟨3, ![8, 8192, 256]⟩
abbrev S2x32 : Shape := ⟨2, ![2, 32]⟩
abbrev S32 : Shape := ⟨1, ![32]⟩
abbrev S32x25 : Shape := ⟨2, ![32, 25]⟩
abbrev S25 : Shape := ⟨1, ![25]⟩
abbrev S_ : Shape := ⟨0, ![]⟩
abbrev S8x256 : Shape := ⟨2, ![8, 256]⟩
abbrev S8x1x256 : Shape := ⟨3, ![8, 1, 256]⟩
abbrev S8x256x1 : Shape := ⟨3, ![8, 256, 1]⟩
abbrev S8x256x2 : Shape := ⟨3, ![8, 256, 2]⟩
abbrev S2048x2 : Shape := ⟨2, ![2048, 2]⟩
abbrev S2048x32 : Shape := ⟨2, ![2048, 32]⟩
abbrev S1x32 : Shape := ⟨2, ![1, 32]⟩
abbrev S2048x25 : Shape := ⟨2, ![2048, 25]⟩
abbrev S1x25 : Shape := ⟨2, ![1, 25]⟩
abbrev S2048x8 : Shape := ⟨2, ![2048, 8]⟩
abbrev S2048 : Shape := ⟨1, ![2048]⟩
abbrev S2048x1 : Shape := ⟨2, ![2048, 1]⟩
abbrev S2048x9 : Shape := ⟨2, ![2048, 9]⟩
abbrev S8x256x8192 : Shape := ⟨3, ![8, 256, 8192]⟩
abbrev S2048x8192 : Shape := ⟨2, ![2048, 8192]⟩
abbrev S2048x9x1 : Shape := ⟨3, ![2048, 9, 1]⟩
abbrev S2048x1x8192 : Shape := ⟨3, ![2048, 1, 8192]⟩
abbrev S2048x9x8192 : Shape := ⟨3, ![2048, 9, 8192]⟩
abbrev S2048x8192x1 : Shape := ⟨3, ![2048, 8192, 1]⟩
abbrev S1 : Shape := ⟨1, ![1]⟩
abbrev S1x1x1 : Shape := ⟨3, ![1, 1, 1]⟩

abbrev nBuf : Space → Nat
  | .hbm => 389
  | .vmem => 0
  | .smem => 0
  | _ => 0

abbrev hbmTy0_0 (i : Nat) : BufTy := match i % 128 with
  | 0 => ⟨S8x8192x256, .f32⟩
  | 1 => ⟨S2x32, .f32⟩
  | 2 => ⟨S32, .f32⟩
  | 3 => ⟨S32x25, .f32⟩
  | 4 => ⟨S25, .f32⟩
  | 5 => ⟨S_, .f32⟩
  | 6 => ⟨S8x256, .f32⟩
  | 7 => ⟨S8x1x256, .f32⟩
  | 8 => ⟨S_, .f32⟩
  | 9 => ⟨S8x1x256, .f32⟩
  | 10 => ⟨S8x1x256, .f32⟩
  | 11 => ⟨S_, .i32⟩
  | 12 => ⟨S_, .f32⟩
  | 13 => ⟨S8x256, .f32⟩
  | 14 => ⟨S8x1x256, .f32⟩
  | 15 => ⟨S_, .f32⟩
  | 16 => ⟨S8x1x256, .f32⟩
  | 17 => ⟨S8x1x256, .f32⟩
  | 18 => ⟨S8x8192x256, .f32⟩
  | 19 => ⟨S8x8192x256, .f32⟩
  | 20 => ⟨S8x8192x256, .f32⟩
  | 21 => ⟨S_, .f32⟩
  | 22 => ⟨S_, .f32⟩
  | 23 => ⟨S_, .f32⟩
  | 24 => ⟨S_, .f32⟩
  | 25 => ⟨S8x256, .f32⟩
  | 26 => ⟨S8x1x256, .f32⟩
  | 27 => ⟨S8x1x256, .f32⟩
  | 28 => ⟨S8x1x256, .f32⟩
  | 29 => ⟨S_, .f32⟩
  | 30 => ⟨S_, .i1⟩
  | 31 => ⟨S_, .f32⟩
  | 32 => ⟨S_, .f32⟩
  | 33 => ⟨S8x1x256, .f32⟩
  | 34 => ⟨S8x1x256, .f32⟩
  | 35 => ⟨S8x1x256, .f32⟩
  | 36 => ⟨S_, .f32⟩
  | 37 => ⟨S_, .f32⟩
  | 38 => ⟨S8x1x256, .f32⟩
  | 39 => ⟨S8x1x256, .f32⟩
  | 40 => ⟨S8x8192x256, .f32⟩
  | 41 => ⟨S8x8192x256, .f32⟩
  | 42 => ⟨S8x8192x256, .f32⟩
  | 43 => ⟨S8x8192x256, .f32⟩
  | 44 => ⟨S8x8192x256, .f32⟩
  | 45 => ⟨S8x8192x256, .f32⟩
  | 46 => ⟨S_, .f32⟩
  | 47 => ⟨S8x256, .f32⟩
  | 48 => ⟨S_, .f32⟩
  | 49 => ⟨S8x256, .f32⟩
  | 50 => ⟨S8x256, .f32⟩
  | 51 => ⟨S8x8192x256, .f32⟩
  | 52 => ⟨S8x8192x256, .f32⟩
  | 53 => ⟨S_, .f32⟩
  | 54 => ⟨S8x256, .f32⟩
  | 55 => ⟨S_, .f32⟩
  | 56 => ⟨S8x256, .f32⟩
  | 57 => ⟨S8x256, .f32⟩
  | 58 => ⟨S_, .f32⟩
  | 59 => ⟨S8x256, .f32⟩
  | 60 => ⟨S8x256, .f32⟩
  | 61 => ⟨S8x256x1, .f32⟩
  | 62 => ⟨S8x256x1, .f32⟩
  | 63 => ⟨S8x256x2, .f32⟩
  | 64 => ⟨S2048x2, .f32⟩
  | 65 => ⟨S2048x32, .f32⟩
  | 66 => ⟨S1x32, .f32⟩
  | 67 => ⟨S2048x32, .f32⟩
  | 68 => ⟨S2048x32, .f32⟩
  | 69 => ⟨S_, .f32⟩
  | 70 => ⟨S2048x32, .f32⟩
  | 71 => ⟨S2048x32, .f32⟩
  | 72 => ⟨S2048x25, .f32⟩
  | 73 => ⟨S1x25, .f32⟩
  | 74 => ⟨S2048x25, .f32⟩
  | 75 => ⟨S2048x25, .f32⟩
  | 76 => ⟨S2048x8, .f32⟩
  | 77 => ⟨S_, .f32⟩
  | 78 => ⟨S2048, .f32⟩
  | 79 => ⟨S_, .f32⟩
  | 80 => ⟨S2048, .f32⟩
  | 81 => ⟨S2048, .f32⟩
  | 82 => ⟨S2048x1, .f32⟩
  | 83 => ⟨S2048x8, .f32⟩
  | 84 => ⟨S2048x8, .f32⟩
  | 85 => ⟨S2048x8, .f32⟩
  | 86 => ⟨S_, .f32⟩
  | 87 => ⟨S2048, .f32⟩
  | 88 => ⟨S2048x1, .f32⟩
  | 89 => ⟨S2048x8, .f32⟩
  | 90 => ⟨S2048x8, .f32⟩
  | 91 => ⟨S_, .f32⟩
  | 92 => ⟨S2048x8, .f32⟩
  | 93 => ⟨S2048x8, .f32⟩
  | 94 => ⟨S2048x8, .f32⟩
  | 95 => ⟨S_, .f32⟩
  | 96 => ⟨S2048, .f32⟩
  | 97 => ⟨S_, .f32⟩
  | 98 => ⟨S2048, .f32⟩
  | 99 => ⟨S2048, .f32⟩
  | 100 => ⟨S2048x1, .f32⟩
  | 101 => ⟨S2048x8, .f32⟩
  | 102 => ⟨S2048x8, .f32⟩
  | 103 => ⟨S2048x8, .f32⟩
  | 104 => ⟨S_, .f32⟩
  | 105 => ⟨S2048, .f32⟩
  | 106 => ⟨S2048x1, .f32⟩
  | 107 => ⟨S2048x8, .f32⟩
  | 108 => ⟨S2048x8, .f32⟩
  | 109 => ⟨S_, .f32⟩
  | 110 => ⟨S2048x8, .f32⟩
  | 111 => ⟨S2048x8, .f32⟩
  | 112 => ⟨S2048x9, .f32⟩
  | 113 => ⟨S_, .f32⟩
  | 114 => ⟨S2048x9, .f32⟩
  | 115 => ⟨S2048x9, .f32⟩
  | 116 => ⟨S2048x9, .f32⟩
  | 117 => ⟨S2048x9, .f32⟩
  | 118 => ⟨S2048x9, .i1⟩
  | 119 => ⟨S2048x9, .f32⟩
  | 120 => ⟨S2048x9, .f32⟩
  | 121 => ⟨S2048x9, .f32⟩
  | 122 => ⟨S2048x9, .f32⟩
  | 123 => ⟨S2048x9, .f32⟩
  | 124 => ⟨S2048x9, .f32⟩
  | 125 => ⟨S2048x9, .f32⟩
  | 126 => ⟨S2048x9, .f32⟩
  | 127 => ⟨S_, .f32⟩
  | _ => ⟨S8x8192x256, .f32⟩

abbrev hbmTy0_1 (i : Nat) : BufTy := match i % 128 with
  | 0 => ⟨S2048x9, .f32⟩
  | 1 => ⟨S2048x9, .f32⟩
  | 2 => ⟨S_, .f32⟩
  | 3 => ⟨S2048x1, .f32⟩
  | 4 => ⟨S_, .f32⟩
  | 5 => ⟨S_, .f32⟩
  | 6 => ⟨S2048x8, .f32⟩
  | 7 => ⟨S_, .f32⟩
  | 8 => ⟨S2048x8, .f32⟩
  | 9 => ⟨S2048x8, .f32⟩
  | 10 => ⟨S2048x9, .f32⟩
  | 11 => ⟨S_, .f32⟩
  | 12 => ⟨S_, .f32⟩
  | 13 => ⟨S2048x8, .f32⟩
  | 14 => ⟨S_, .f32⟩
  | 15 => ⟨S2048x8, .f32⟩
  | 16 => ⟨S2048x8, .f32⟩
  | 17 => ⟨S2048x9, .f32⟩
  | 18 => ⟨S8x256x8192, .f32⟩
  | 19 => ⟨S2048x8192, .f32⟩
  | 20 => ⟨S2048x8, .f32⟩
  | 21 => ⟨S2048x8, .f32⟩
  | 22 => ⟨S2048x8, .f32⟩
  | 23 => ⟨S2048x8, .f32⟩
  | 24 => ⟨S2048x8, .f32⟩
  | 25 => ⟨S2048x8, .f32⟩
  | 26 => ⟨S_, .f32⟩
  | 27 => ⟨S_, .f32⟩
  | 28 => ⟨S2048x8, .f32⟩
  | 29 => ⟨S2048x8, .f32⟩
  | 30 => ⟨S2048x8, .f32⟩
  | 31 => ⟨S2048x9x1, .f32⟩
  | 32 => ⟨S2048x1x8192, .f32⟩
  | 33 => ⟨S2048x9x8192, .f32⟩
  | 34 => ⟨S2048x9x8192, .f32⟩
  | 35 => ⟨S2048x9x8192, .i1⟩
  | 36 => ⟨S2048x9x8192, .i32⟩
  | 37 => ⟨S_, .i32⟩
  | 38 => ⟨S2048x8192, .i32⟩
  | 39 => ⟨S_, .i32⟩
  | 40 => ⟨S2048x8192, .i32⟩
  | 41 => ⟨S2048x8192, .i32⟩
  | 42 => ⟨S_, .i32⟩
  | 43 => ⟨S_, .i32⟩
  | 44 => ⟨S_, .i32⟩
  | 45 => ⟨S2048x8192, .i32⟩
  | 46 => ⟨S2048x8192, .i32⟩
  | 47 => ⟨S_, .i32⟩
  | 48 => ⟨S2048x8192, .i32⟩
  | 49 => ⟨S2048x8192, .i32⟩
  | 50 => ⟨S_, .i32⟩
  | 51 => ⟨S2048x8192, .i32⟩
  | 52 => ⟨S2048x8192, .i1⟩
  | 53 => ⟨S_, .i32⟩
  | 54 => ⟨S2048x8192, .i32⟩
  | 55 => ⟨S2048x8192, .i32⟩
  | 56 => ⟨S2048x8192, .i32⟩
  | 57 => ⟨S2048x8192x1, .i32⟩
  | 58 => ⟨S1, .i32⟩
  | 59 => ⟨S_, .i32⟩
  | 60 => ⟨S2048x8192x1, .i32⟩
  | 61 => ⟨S2048x8192x1, .i1⟩
  | 62 => ⟨S1x1x1, .i32⟩
  | 63 => ⟨S2048x8192x1, .i32⟩
  | 64 => ⟨S2048x8192x1, .i1⟩
  | 65 => ⟨S2048x8192x1, .i1⟩
  | 66 => ⟨S_, .i1⟩
  | 67 => ⟨S2048x8192, .i1⟩
  | 68 => ⟨S2048x8192, .f32⟩
  | 69 => ⟨S_, .f32⟩
  | 70 => ⟨S2048x8192, .f32⟩
  | 71 => ⟨S2048x8192, .f32⟩
  | 72 => ⟨S_, .i32⟩
  | 73 => ⟨S2048x8192, .i32⟩
  | 74 => ⟨S2048x8192, .i1⟩
  | 75 => ⟨S_, .i32⟩
  | 76 => ⟨S2048x8192, .i32⟩
  | 77 => ⟨S2048x8192, .i32⟩
  | 78 => ⟨S2048x8192, .i32⟩
  | 79 => ⟨S2048x8192x1, .i32⟩
  | 80 => ⟨S1, .i32⟩
  | 81 => ⟨S_, .i32⟩
  | 82 => ⟨S2048x8192x1, .i32⟩
  | 83 => ⟨S2048x8192x1, .i1⟩
  | 84 => ⟨S1x1x1, .i32⟩
  | 85 => ⟨S2048x8192x1, .i32⟩
  | 86 => ⟨S2048x8192x1, .i1⟩
  | 87 => ⟨S2048x8192x1, .i1⟩
  | 88 => ⟨S_, .i1⟩
  | 89 => ⟨S2048x8192, .i1⟩
  | 90 => ⟨S2048x8192, .f32⟩
  | 91 => ⟨S_, .f32⟩
  | 92 => ⟨S2048x8192, .f32⟩
  | 93 => ⟨S2048x8192, .f32⟩
  | 94 => ⟨S_, .i32⟩
  | 95 => ⟨S2048x8192, .i32⟩
  | 96 => ⟨S2048x8192, .i1⟩
  | 97 => ⟨S_, .i32⟩
  | 98 => ⟨S2048x8192, .i32⟩
  | 99 => ⟨S2048x8192, .i32⟩
  | 100 => ⟨S2048x8192, .i32⟩
  | 101 => ⟨S2048x8192x1, .i32⟩
  | 102 => ⟨S1, .i32⟩
  | 103 => ⟨S_, .i32⟩
  | 104 => ⟨S2048x8192x1, .i32⟩
  | 105 => ⟨S2048x8192x1, .i1⟩
  | 106 => ⟨S1x1x1, .i32⟩
  | 107 => ⟨S2048x8192x1, .i32⟩
  | 108 => ⟨S2048x8192x1, .i1⟩
  | 109 => ⟨S2048x8192x1, .i1⟩
  | 110 => ⟨S_, .i1⟩
  | 111 => ⟨S2048x8192, .i1⟩
  | 112 => ⟨S2048x8192, .f32⟩
  | 113 => ⟨S_, .f32⟩
  | 114 => ⟨S2048x8192, .f32⟩
  | 115 => ⟨S2048x8192, .f32⟩
  | 116 => ⟨S_, .i32⟩
  | 117 => ⟨S2048x8192, .i32⟩
  | 118 => ⟨S2048x8192, .i1⟩
  | 119 => ⟨S_, .i32⟩
  | 120 => ⟨S2048x8192, .i32⟩
  | 121 => ⟨S2048x8192, .i32⟩
  | 122 => ⟨S2048x8192, .i32⟩
  | 123 => ⟨S2048x8192x1, .i32⟩
  | 124 => ⟨S1, .i32⟩
  | 125 => ⟨S_, .i32⟩
  | 126 => ⟨S2048x8192x1, .i32⟩
  | 127 => ⟨S2048x8192x1, .i1⟩
  | _ => ⟨S8x8192x256, .f32⟩

abbrev hbmTy0_2 (i : Nat) : BufTy := match i % 128 with
  | 0 => ⟨S1x1x1, .i32⟩
  | 1 => ⟨S2048x8192x1, .i32⟩
  | 2 => ⟨S2048x8192x1, .i1⟩
  | 3 => ⟨S2048x8192x1, .i1⟩
  | 4 => ⟨S_, .i1⟩
  | 5 => ⟨S2048x8192, .i1⟩
  | 6 => ⟨S2048x8192, .f32⟩
  | 7 => ⟨S_, .f32⟩
  | 8 => ⟨S2048x8192, .f32⟩
  | 9 => ⟨S2048x8192, .f32⟩
  | 10 => ⟨S_, .i32⟩
  | 11 => ⟨S2048x8192, .i32⟩
  | 12 => ⟨S2048x8192, .i32⟩
  | 13 => ⟨S_, .i32⟩
  | 14 => ⟨S_, .i32⟩
  | 15 => ⟨S2048x8192, .i32⟩
  | 16 => ⟨S2048x8192, .i32⟩
  | 17 => ⟨S_, .i32⟩
  | 18 => ⟨S2048x8192, .i32⟩
  | 19 => ⟨S2048x8192, .i1⟩
  | 20 => ⟨S_, .i32⟩
  | 21 => ⟨S2048x8192, .i32⟩
  | 22 => ⟨S2048x8192, .i32⟩
  | 23 => ⟨S2048x8192, .i32⟩
  | 24 => ⟨S2048x8192x1, .i32⟩
  | 25 => ⟨S1, .i32⟩
  | 26 => ⟨S_, .i32⟩
  | 27 => ⟨S2048x8192x1, .i32⟩
  | 28 => ⟨S2048x8192x1, .i1⟩
  | 29 => ⟨S1x1x1, .i32⟩
  | 30 => ⟨S2048x8192x1, .i32⟩
  | 31 => ⟨S2048x8192x1, .i1⟩
  | 32 => ⟨S2048x8192x1, .i1⟩
  | 33 => ⟨S_, .i1⟩
  | 34 => ⟨S2048x8192, .i1⟩
  | 35 => ⟨S2048x8192, .f32⟩
  | 36 => ⟨S_, .f32⟩
  | 37 => ⟨S2048x8192, .f32⟩
  | 38 => ⟨S2048x8192, .f32⟩
  | 39 => ⟨S_, .i32⟩
  | 40 => ⟨S2048x8192, .i32⟩
  | 41 => ⟨S2048x8192, .i1⟩
  | 42 => ⟨S_, .i32⟩
  | 43 => ⟨S2048x8192, .i32⟩
  | 44 => ⟨S2048x8192, .i32⟩
  | 45 => ⟨S2048x8192, .i32⟩
  | 46 => ⟨S2048x8192x1, .i32⟩
  | 47 => ⟨S1, .i32⟩
  | 48 => ⟨S_, .i32⟩
  | 49 => ⟨S2048x8192x1, .i32⟩
  | 50 => ⟨S2048x8192x1, .i1⟩
  | 51 => ⟨S1x1x1, .i32⟩
  | 52 => ⟨S2048x8192x1, .i32⟩
  | 53 => ⟨S2048x8192x1, .i1⟩
  | 54 => ⟨S2048x8192x1, .i1⟩
  | 55 => ⟨S_, .i1⟩
  | 56 => ⟨S2048x8192, .i1⟩
  | 57 => ⟨S2048x8192, .f32⟩
  | 58 => ⟨S_, .f32⟩
  | 59 => ⟨S2048x8192, .f32⟩
  | 60 => ⟨S2048x8192, .f32⟩
  | 61 => ⟨S_, .i32⟩
  | 62 => ⟨S2048x8192, .i32⟩
  | 63 => ⟨S2048x8192, .i1⟩
  | 64 => ⟨S_, .i32⟩
  | 65 => ⟨S2048x8192, .i32⟩
  | 66 => ⟨S2048x8192, .i32⟩
  | 67 => ⟨S2048x8192, .i32⟩
  | 68 => ⟨S2048x8192x1, .i32⟩
  | 69 => ⟨S1, .i32⟩
  | 70 => ⟨S_, .i32⟩
  | 71 => ⟨S2048x8192x1, .i32⟩
  | 72 => ⟨S2048x8192x1, .i1⟩
  | 73 => ⟨S1x1x1, .i32⟩
  | 74 => ⟨S2048x8192x1, .i32⟩
  | 75 => ⟨S2048x8192x1, .i1⟩
  | 76 => ⟨S2048x8192x1, .i1⟩
  | 77 => ⟨S_, .i1⟩
  | 78 => ⟨S2048x8192, .i1⟩
  | 79 => ⟨S2048x8192, .f32⟩
  | 80 => ⟨S_, .f32⟩
  | 81 => ⟨S2048x8192, .f32⟩
  | 82 => ⟨S2048x8192, .f32⟩
  | 83 => ⟨S2048x8192, .f32⟩
  | 84 => ⟨S_, .f32⟩
  | 85 => ⟨S_, .f32⟩
  | 86 => ⟨S2048x8192, .f32⟩
  | 87 => ⟨S2048x8192, .f32⟩
  | 88 => ⟨S2048x8192, .f32⟩
  | 89 => ⟨S_, .f32⟩
  | 90 => ⟨S_, .f32⟩
  | 91 => ⟨S_, .f32⟩
  | 92 => ⟨S2048x8192, .f32⟩
  | 93 => ⟨S2048x8192, .f32⟩
  | 94 => ⟨S_, .f32⟩
  | 95 => ⟨S2048x8192, .f32⟩
  | 96 => ⟨S2048x8192, .f32⟩
  | 97 => ⟨S2048x8192, .f32⟩
  | 98 => ⟨S2048x8192, .f32⟩
  | 99 => ⟨S2048x8192, .f32⟩
  | 100 => ⟨S_, .f32⟩
  | 101 => ⟨S2048x8192, .f32⟩
  | 102 => ⟨S2048x8192, .f32⟩
  | 103 => ⟨S2048x8192, .f32⟩
  | 104 => ⟨S2048x8192, .f32⟩
  | 105 => ⟨S2048x8192, .f32⟩
  | 106 => ⟨S2048x8192, .f32⟩
  | 107 => ⟨S_, .f32⟩
  | 108 => ⟨S2048x8192, .f32⟩
  | 109 => ⟨S2048x8192, .f32⟩
  | 110 => ⟨S2048x8192, .f32⟩
  | 111 => ⟨S2048x8192, .f32⟩
  | 112 => ⟨S_, .f32⟩
  | 113 => ⟨S2048x8192, .f32⟩
  | 114 => ⟨S2048x8192, .f32⟩
  | 115 => ⟨S2048x8192, .f32⟩
  | 116 => ⟨S2048x8192, .f32⟩
  | 117 => ⟨S_, .f32⟩
  | 118 => ⟨S_, .f32⟩
  | 119 => ⟨S2048x8192, .f32⟩
  | 120 => ⟨S2048x8192, .f32⟩
  | 121 => ⟨S2048x8192, .f32⟩
  | 122 => ⟨S2048x8192, .f32⟩
  | 123 => ⟨S_, .f32⟩
  | 124 => ⟨S2048x8192, .f32⟩
  | 125 => ⟨S2048x8192, .i1⟩
  | 126 => ⟨S_, .f32⟩
  | 127 => ⟨S2048x8192, .f32⟩
  | _ => ⟨S8x8192x256, .f32⟩

abbrev hbmTy0_3 (i : Nat) : BufTy := match i % 128 with
  | 0 => ⟨S2048x8192, .i1⟩
  | 1 => ⟨S2048x8192, .i1⟩
  | 2 => ⟨S2048x8192, .f32⟩
  | 3 => ⟨S8x256x8192, .f32⟩
  | 4 => ⟨S8x8192x256, .f32⟩
  | _ => ⟨S8x8192x256, .f32⟩

abbrev hbmTy (i : Nat) : BufTy := match i / 128 with
  | 0 => hbmTy0_0 i
  | 1 => hbmTy0_1 i
  | 2 => hbmTy0_2 i
  | 3 => hbmTy0_3 i
  | _ => ⟨S8x8192x256, .f32⟩

abbrev bufTy : (tb : Table) → Fin (tcTables nBuf tb) → BufTy
  | .hbm, ⟨i, _⟩ => hbmTy i
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_cst_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_cst_1 : Ref sig .tc := ⟨.hbm, 22, rfl⟩
abbrev main_call0_call0_v8 : Ref sig .tc := ⟨.hbm, 23, rfl⟩
abbrev main_call0_call0_cst_2 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_cst_3 : Ref sig .tc := ⟨.hbm, 29, rfl⟩
abbrev main_call0_call0_v13 : Ref sig .tc := ⟨.hbm, 30, rfl⟩
abbrev main_call0_call0_cst_4 : Ref sig .tc := ⟨.hbm, 31, rfl⟩
abbrev main_call0_call0_call0_v0 : Ref sig .tc := ⟨.hbm, 32, rfl⟩
abbrev main_call0_call0_call0_v1 : Ref sig .tc := ⟨.hbm, 33, rfl⟩
abbrev main_call0_v0 : Ref sig .tc := ⟨.hbm, 34, rfl⟩
abbrev main_v4 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_2 : Ref sig .tc := ⟨.hbm, 46, rfl⟩
abbrev main_v12 : Ref sig .tc := ⟨.hbm, 47, rfl⟩
abbrev main_cst_3 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_4 : Ref sig .tc := ⟨.hbm, 53, rfl⟩
abbrev main_v17 : Ref sig .tc := ⟨.hbm, 54, rfl⟩
abbrev main_cst_5 : Ref sig .tc := ⟨.hbm, 55, rfl⟩
abbrev main_v18 : Ref sig .tc := ⟨.hbm, 56, rfl⟩
abbrev main_v19 : Ref sig .tc := ⟨.hbm, 57, rfl⟩
abbrev main_cst_6 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call2_cst : Ref sig .tc := ⟨.hbm, 69, rfl⟩
abbrev main_call2_v0 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_v36 : Ref sig .tc := ⟨.hbm, 78, rfl⟩
abbrev main_cst_8 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_9 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_10 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_11 : Ref sig .tc := ⟨.hbm, 95, rfl⟩
abbrev main_v50 : Ref sig .tc := ⟨.hbm, 96, rfl⟩
abbrev main_cst_12 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_13 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_14 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_call3_cst : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_v64 : Ref sig .tc := ⟨.hbm, 126, rfl⟩
abbrev main_cst_15 : Ref sig .tc := ⟨.hbm, 127, rfl⟩
abbrev main_v65 : Ref sig .tc := ⟨.hbm, 128, rfl⟩
abbrev main_v66 : Ref sig .tc := ⟨.hbm, 129, rfl⟩
abbrev main_cst_16 : Ref sig .tc := ⟨.hbm, 130, rfl⟩
abbrev main_v67 : Ref sig .tc := ⟨.hbm, 131, rfl⟩
abbrev main_call4_call0_cst : Ref sig .tc := ⟨.hbm, 132, rfl⟩
abbrev main_call4_call0_v0 : Ref sig .tc := ⟨.hbm, 133, rfl⟩
abbrev main_v68 : Ref sig .tc := ⟨.hbm, 134, rfl⟩
abbrev main_cst_17 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_call5_call0_cst : Ref sig .tc := ⟨.hbm, 139, rfl⟩
abbrev main_call5_call0_v0 : Ref sig .tc := ⟨.hbm, 140, rfl⟩
abbrev main_v72 : Ref sig .tc := ⟨.hbm, 141, rfl⟩
abbrev main_cst_18 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_19 : Ref sig .tc := ⟨.hbm, 154, rfl⟩
abbrev main_call6_v0 : Ref sig .tc := ⟨.hbm, 155, rfl⟩
abbrev main_call6_v1 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_c_20 : Ref sig .tc := ⟨.hbm, 165, rfl⟩
abbrev main_v92 : Ref sig .tc := ⟨.hbm, 166, rfl⟩
abbrev main_c_21 : Ref sig .tc := ⟨.hbm, 167, rfl⟩
abbrev main_v93 : Ref sig .tc := ⟨.hbm, 168, rfl⟩
abbrev main_v94 : Ref sig .tc := ⟨.hbm, 169, rfl⟩
abbrev main_c_22 : Ref sig .tc := ⟨.hbm, 170, rfl⟩
abbrev main_c_23 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_v95 : Ref sig .tc := ⟨.hbm, 177, rfl⟩
abbrev main_call8_c : Ref sig .tc := ⟨.hbm, 178, rfl⟩
abbrev main_call8_v0 : Ref sig .tc := ⟨.hbm, 179, rfl⟩
abbrev main_call8_v1 : Ref sig .tc := ⟨.hbm, 180, rfl⟩
abbrev main_call8_c_0 : Ref sig .tc := ⟨.hbm, 181, rfl⟩
abbrev main_call8_v2 : Ref sig .tc := ⟨.hbm, 182, rfl⟩
abbrev main_call8_v3 : Ref sig .tc := ⟨.hbm, 183, rfl⟩
abbrev main_call8_v4 : Ref sig .tc := ⟨.hbm, 184, rfl⟩
abbrev main_call8_v5 : Ref sig .tc := ⟨.hbm, 185, rfl⟩
abbrev main_call8_c_1 : Ref sig .tc := ⟨.hbm, 186, rfl⟩
abbrev main_call8_c_2 : Ref sig .tc := ⟨.hbm, 187, rfl⟩
abbrev main_call8_v6 : Ref sig .tc := ⟨.hbm, 188, rfl⟩
abbrev main_call8_v7 : Ref sig .tc := ⟨.hbm, 189, rfl⟩
abbrev main_call8_v8 : Ref sig .tc := ⟨.hbm, 190, rfl⟩
abbrev main_call8_v9 : Ref sig .tc := ⟨.hbm, 191, rfl⟩
abbrev main_call8_v10 : Ref sig .tc := ⟨.hbm, 192, rfl⟩
abbrev main_call8_v11 : Ref sig .tc := ⟨.hbm, 193, rfl⟩
abbrev main_call8_c_3 : Ref sig .tc := ⟨.hbm, 194, rfl⟩
abbrev main_call8_v12 : Ref sig .tc := ⟨.hbm, 195, rfl⟩
abbrev main_call8_v13 : Ref sig .tc := ⟨.hbm, 196, rfl⟩
abbrev main_call8_cst : Ref sig .tc := ⟨.hbm, 197, rfl⟩
abbrev main_call8_v14 : Ref sig .tc := ⟨.hbm, 198, rfl⟩
abbrev main_v96 : Ref sig .tc := ⟨.hbm, 199, rfl⟩
abbrev main_call9_c : Ref sig .tc := ⟨.hbm, 200, rfl⟩
abbrev main_call9_v0 : Ref sig .tc := ⟨.hbm, 201, rfl⟩
abbrev main_call9_v1 : Ref sig .tc := ⟨.hbm, 202, rfl⟩
abbrev main_call9_c_0 : Ref sig .tc := ⟨.hbm, 203, rfl⟩
abbrev main_call9_v2 : Ref sig .tc := ⟨.hbm, 204, rfl⟩
abbrev main_call9_v3 : Ref sig .tc := ⟨.hbm, 205, rfl⟩
abbrev main_call9_v4 : Ref sig .tc := ⟨.hbm, 206, rfl⟩
abbrev main_call9_v5 : Ref sig .tc := ⟨.hbm, 207, rfl⟩
abbrev main_call9_c_1 : Ref sig .tc := ⟨.hbm, 208, rfl⟩
abbrev main_call9_c_2 : Ref sig .tc := ⟨.hbm, 209, rfl⟩
abbrev main_call9_v6 : Ref sig .tc := ⟨.hbm, 210, rfl⟩
abbrev main_call9_v7 : Ref sig .tc := ⟨.hbm, 211, rfl⟩
abbrev main_call9_v8 : Ref sig .tc := ⟨.hbm, 212, rfl⟩
abbrev main_call9_v9 : Ref sig .tc := ⟨.hbm, 213, rfl⟩
abbrev main_call9_v10 : Ref sig .tc := ⟨.hbm, 214, rfl⟩
abbrev main_call9_v11 : Ref sig .tc := ⟨.hbm, 215, rfl⟩
abbrev main_call9_c_3 : Ref sig .tc := ⟨.hbm, 216, rfl⟩
abbrev main_call9_v12 : Ref sig .tc := ⟨.hbm, 217, rfl⟩
abbrev main_call9_v13 : Ref sig .tc := ⟨.hbm, 218, rfl⟩
abbrev main_call9_cst : Ref sig .tc := ⟨.hbm, 219, rfl⟩
abbrev main_call9_v14 : Ref sig .tc := ⟨.hbm, 220, rfl⟩
abbrev main_v97 : Ref sig .tc := ⟨.hbm, 221, rfl⟩
abbrev main_call10_c : Ref sig .tc := ⟨.hbm, 222, rfl⟩
abbrev main_call10_v0 : Ref sig .tc := ⟨.hbm, 223, rfl⟩
abbrev main_call10_v1 : Ref sig .tc := ⟨.hbm, 224, rfl⟩
abbrev main_call10_c_0 : Ref sig .tc := ⟨.hbm, 225, rfl⟩
abbrev main_call10_v2 : Ref sig .tc := ⟨.hbm, 226, rfl⟩
abbrev main_call10_v3 : Ref sig .tc := ⟨.hbm, 227, rfl⟩
abbrev main_call10_v4 : Ref sig .tc := ⟨.hbm, 228, rfl⟩
abbrev main_call10_v5 : Ref sig .tc := ⟨.hbm, 229, rfl⟩
abbrev main_call10_c_1 : Ref sig .tc := ⟨.hbm, 230, rfl⟩
abbrev main_call10_c_2 : Ref sig .tc := ⟨.hbm, 231, rfl⟩
abbrev main_call10_v6 : Ref sig .tc := ⟨.hbm, 232, rfl⟩
abbrev main_call10_v7 : Ref sig .tc := ⟨.hbm, 233, rfl⟩
abbrev main_call10_v8 : Ref sig .tc := ⟨.hbm, 234, rfl⟩
abbrev main_call10_v9 : Ref sig .tc := ⟨.hbm, 235, rfl⟩
abbrev main_call10_v10 : Ref sig .tc := ⟨.hbm, 236, rfl⟩
abbrev main_call10_v11 : Ref sig .tc := ⟨.hbm, 237, rfl⟩
abbrev main_call10_c_3 : Ref sig .tc := ⟨.hbm, 238, rfl⟩
abbrev main_call10_v12 : Ref sig .tc := ⟨.hbm, 239, rfl⟩
abbrev main_call10_v13 : Ref sig .tc := ⟨.hbm, 240, rfl⟩
abbrev main_call10_cst : Ref sig .tc := ⟨.hbm, 241, rfl⟩
abbrev main_call10_v14 : Ref sig .tc := ⟨.hbm, 242, rfl⟩
abbrev main_v98 : Ref sig .tc := ⟨.hbm, 243, rfl⟩
abbrev main_call11_c : Ref sig .tc := ⟨.hbm, 244, rfl⟩
abbrev main_call11_v0 : Ref sig .tc := ⟨.hbm, 245, rfl⟩
abbrev main_call11_v1 : Ref sig .tc := ⟨.hbm, 246, rfl⟩
abbrev main_call11_c_0 : Ref sig .tc := ⟨.hbm, 247, rfl⟩
abbrev main_call11_v2 : Ref sig .tc := ⟨.hbm, 248, rfl⟩
abbrev main_call11_v3 : Ref sig .tc := ⟨.hbm, 249, rfl⟩
abbrev main_call11_v4 : Ref sig .tc := ⟨.hbm, 250, rfl⟩
abbrev main_call11_v5 : Ref sig .tc := ⟨.hbm, 251, rfl⟩
abbrev main_call11_c_1 : Ref sig .tc := ⟨.hbm, 252, rfl⟩
abbrev main_call11_c_2 : Ref sig .tc := ⟨.hbm, 253, rfl⟩
abbrev main_call11_v6 : Ref sig .tc := ⟨.hbm, 254, rfl⟩
abbrev main_call11_v7 : Ref sig .tc := ⟨.hbm, 255, rfl⟩
abbrev main_call11_v8 : Ref sig .tc := ⟨.hbm, 256, rfl⟩
abbrev main_call11_v9 : Ref sig .tc := ⟨.hbm, 257, rfl⟩
abbrev main_call11_v10 : Ref sig .tc := ⟨.hbm, 258, rfl⟩
abbrev main_call11_v11 : Ref sig .tc := ⟨.hbm, 259, rfl⟩
abbrev main_call11_c_3 : Ref sig .tc := ⟨.hbm, 260, rfl⟩
abbrev main_call11_v12 : Ref sig .tc := ⟨.hbm, 261, rfl⟩
abbrev main_call11_v13 : Ref sig .tc := ⟨.hbm, 262, rfl⟩
abbrev main_call11_cst : Ref sig .tc := ⟨.hbm, 263, rfl⟩
abbrev main_call11_v14 : Ref sig .tc := ⟨.hbm, 264, rfl⟩
abbrev main_v99 : Ref sig .tc := ⟨.hbm, 265, rfl⟩
abbrev main_c_24 : Ref sig .tc := ⟨.hbm, 266, rfl⟩
abbrev main_v100 : Ref sig .tc := ⟨.hbm, 267, rfl⟩
abbrev main_v101 : Ref sig .tc := ⟨.hbm, 268, rfl⟩
abbrev main_c_25 : Ref sig .tc := ⟨.hbm, 269, rfl⟩
abbrev main_call12_v0 : Ref sig .tc := ⟨.hbm, 270, rfl⟩
abbrev main_call12_v1 : Ref sig .tc := ⟨.hbm, 271, rfl⟩
abbrev main_v102 : Ref sig .tc := ⟨.hbm, 272, rfl⟩
abbrev main_call13_c : Ref sig .tc := ⟨.hbm, 273, rfl⟩
abbrev main_call13_v0 : Ref sig .tc := ⟨.hbm, 274, rfl⟩
abbrev main_call13_v1 : Ref sig .tc := ⟨.hbm, 275, rfl⟩
abbrev main_call13_c_0 : Ref sig .tc := ⟨.hbm, 276, rfl⟩
abbrev main_call13_v2 : Ref sig .tc := ⟨.hbm, 277, rfl⟩
abbrev main_call13_v3 : Ref sig .tc := ⟨.hbm, 278, rfl⟩
abbrev main_call13_v4 : Ref sig .tc := ⟨.hbm, 279, rfl⟩
abbrev main_call13_v5 : Ref sig .tc := ⟨.hbm, 280, rfl⟩
abbrev main_call13_c_1 : Ref sig .tc := ⟨.hbm, 281, rfl⟩
abbrev main_call13_c_2 : Ref sig .tc := ⟨.hbm, 282, rfl⟩
abbrev main_call13_v6 : Ref sig .tc := ⟨.hbm, 283, rfl⟩
abbrev main_call13_v7 : Ref sig .tc := ⟨.hbm, 284, rfl⟩
abbrev main_call13_v8 : Ref sig .tc := ⟨.hbm, 285, rfl⟩
abbrev main_call13_v9 : Ref sig .tc := ⟨.hbm, 286, rfl⟩
abbrev main_call13_v10 : Ref sig .tc := ⟨.hbm, 287, rfl⟩
abbrev main_call13_v11 : Ref sig .tc := ⟨.hbm, 288, rfl⟩
abbrev main_call13_c_3 : Ref sig .tc := ⟨.hbm, 289, rfl⟩
abbrev main_call13_v12 : Ref sig .tc := ⟨.hbm, 290, rfl⟩
abbrev main_call13_v13 : Ref sig .tc := ⟨.hbm, 291, rfl⟩
abbrev main_call13_cst : Ref sig .tc := ⟨.hbm, 292, rfl⟩
abbrev main_call13_v14 : Ref sig .tc := ⟨.hbm, 293, rfl⟩
abbrev main_v103 : Ref sig .tc := ⟨.hbm, 294, rfl⟩
abbrev main_call14_c : Ref sig .tc := ⟨.hbm, 295, rfl⟩
abbrev main_call14_v0 : Ref sig .tc := ⟨.hbm, 296, rfl⟩
abbrev main_call14_v1 : Ref sig .tc := ⟨.hbm, 297, rfl⟩
abbrev main_call14_c_0 : Ref sig .tc := ⟨.hbm, 298, rfl⟩
abbrev main_call14_v2 : Ref sig .tc := ⟨.hbm, 299, rfl⟩
abbrev main_call14_v3 : Ref sig .tc := ⟨.hbm, 300, rfl⟩
abbrev main_call14_v4 : Ref sig .tc := ⟨.hbm, 301, rfl⟩
abbrev main_call14_v5 : Ref sig .tc := ⟨.hbm, 302, rfl⟩
abbrev main_call14_c_1 : Ref sig .tc := ⟨.hbm, 303, rfl⟩
abbrev main_call14_c_2 : Ref sig .tc := ⟨.hbm, 304, rfl⟩
abbrev main_call14_v6 : Ref sig .tc := ⟨.hbm, 305, rfl⟩
abbrev main_call14_v7 : Ref sig .tc := ⟨.hbm, 306, rfl⟩
abbrev main_call14_v8 : Ref sig .tc := ⟨.hbm, 307, rfl⟩
abbrev main_call14_v9 : Ref sig .tc := ⟨.hbm, 308, rfl⟩
abbrev main_call14_v10 : Ref sig .tc := ⟨.hbm, 309, rfl⟩
abbrev main_call14_v11 : Ref sig .tc := ⟨.hbm, 310, rfl⟩
abbrev main_call14_c_3 : Ref sig .tc := ⟨.hbm, 311, rfl⟩
abbrev main_call14_v12 : Ref sig .tc := ⟨.hbm, 312, rfl⟩
abbrev main_call14_v13 : Ref sig .tc := ⟨.hbm, 313, rfl⟩
abbrev main_call14_cst : Ref sig .tc := ⟨.hbm, 314, rfl⟩
abbrev main_call14_v14 : Ref sig .tc := ⟨.hbm, 315, rfl⟩
abbrev main_v104 : Ref sig .tc := ⟨.hbm, 316, rfl⟩
abbrev main_call15_c : Ref sig .tc := ⟨.hbm, 317, rfl⟩
abbrev main_call15_v0 : Ref sig .tc := ⟨.hbm, 318, rfl⟩
abbrev main_call15_v1 : Ref sig .tc := ⟨.hbm, 319, rfl⟩
abbrev main_call15_c_0 : Ref sig .tc := ⟨.hbm, 320, rfl⟩
abbrev main_call15_v2 : Ref sig .tc := ⟨.hbm, 321, rfl⟩
abbrev main_call15_v3 : Ref sig .tc := ⟨.hbm, 322, rfl⟩
abbrev main_call15_v4 : Ref sig .tc := ⟨.hbm, 323, rfl⟩
abbrev main_call15_v5 : Ref sig .tc := ⟨.hbm, 324, rfl⟩
abbrev main_call15_c_1 : Ref sig .tc := ⟨.hbm, 325, rfl⟩
abbrev main_call15_c_2 : Ref sig .tc := ⟨.hbm, 326, rfl⟩
abbrev main_call15_v6 : Ref sig .tc := ⟨.hbm, 327, rfl⟩
abbrev main_call15_v7 : Ref sig .tc := ⟨.hbm, 328, rfl⟩
abbrev main_call15_v8 : Ref sig .tc := ⟨.hbm, 329, rfl⟩
abbrev main_call15_v9 : Ref sig .tc := ⟨.hbm, 330, rfl⟩
abbrev main_call15_v10 : Ref sig .tc := ⟨.hbm, 331, rfl⟩
abbrev main_call15_v11 : Ref sig .tc := ⟨.hbm, 332, rfl⟩
abbrev main_call15_c_3 : Ref sig .tc := ⟨.hbm, 333, rfl⟩
abbrev main_call15_v12 : Ref sig .tc := ⟨.hbm, 334, rfl⟩
abbrev main_call15_v13 : Ref sig .tc := ⟨.hbm, 335, rfl⟩
abbrev main_call15_cst : Ref sig .tc := ⟨.hbm, 336, rfl⟩
abbrev main_call15_v14 : Ref sig .tc := ⟨.hbm, 337, rfl⟩
abbrev main_v105 : Ref sig .tc := ⟨.hbm, 338, rfl⟩
abbrev main_v106 : Ref sig .tc := ⟨.hbm, 339, rfl⟩
abbrev main_cst_26 : Ref sig .tc := ⟨.hbm, 340, rfl⟩
abbrev main_call16_v0 : Ref sig .tc := ⟨.hbm, 341, rfl⟩
abbrev main_call16_v1 : Ref sig .tc := ⟨.hbm, 342, rfl⟩
abbrev main_v107 : Ref sig .tc := ⟨.hbm, 343, rfl⟩
abbrev main_v108 : Ref sig .tc := ⟨.hbm, 344, rfl⟩
abbrev main_cst_27 : Ref sig .tc := ⟨.hbm, 345, rfl⟩
abbrev main_cst_28 : Ref sig .tc := ⟨.hbm, 346, rfl⟩
abbrev main_call17_v0 : Ref sig .tc := ⟨.hbm, 347, rfl⟩
abbrev main_call17_v1 : Ref sig .tc := ⟨.hbm, 348, rfl⟩
abbrev main_call17_v2 : Ref sig .tc := ⟨.hbm, 349, rfl⟩
abbrev main_call17_v3 : Ref sig .tc := ⟨.hbm, 350, rfl⟩
abbrev main_call17_v4 : Ref sig .tc := ⟨.hbm, 351, rfl⟩
abbrev main_v109 : Ref sig .tc := ⟨.hbm, 352, rfl⟩
abbrev main_v110 : Ref sig .tc := ⟨.hbm, 353, rfl⟩
abbrev main_v111 : Ref sig .tc := ⟨.hbm, 354, rfl⟩
abbrev main_v112 : Ref sig .tc := ⟨.hbm, 355, rfl⟩
abbrev main_cst_29 : Ref sig .tc := ⟨.hbm, 356, rfl⟩
abbrev main_v113 : Ref sig .tc := ⟨.hbm, 357, rfl⟩
abbrev main_v114 : Ref sig .tc := ⟨.hbm, 358, rfl⟩
abbrev main_v115 : Ref sig .tc := ⟨.hbm, 359, rfl⟩
abbrev main_v116 : Ref sig .tc := ⟨.hbm, 360, rfl⟩
abbrev main_v117 : Ref sig .tc := ⟨.hbm, 361, rfl⟩
abbrev main_v118 : Ref sig .tc := ⟨.hbm, 362, rfl⟩
abbrev main_cst_30 : Ref sig .tc := ⟨.hbm, 363, rfl⟩
abbrev main_v119 : Ref sig .tc := ⟨.hbm, 364, rfl⟩
abbrev main_v120 : Ref sig .tc := ⟨.hbm, 365, rfl⟩
abbrev main_v121 : Ref sig .tc := ⟨.hbm, 366, rfl⟩
abbrev main_v122 : Ref sig .tc := ⟨.hbm, 367, rfl⟩
abbrev main_cst_31 : Ref sig .tc := ⟨.hbm, 368, rfl⟩
abbrev main_v123 : Ref sig .tc := ⟨.hbm, 369, rfl⟩
abbrev main_v124 : Ref sig .tc := ⟨.hbm, 370, rfl⟩
abbrev main_v125 : Ref sig .tc := ⟨.hbm, 371, rfl⟩
abbrev main_v126 : Ref sig .tc := ⟨.hbm, 372, rfl⟩
abbrev main_cst_32 : Ref sig .tc := ⟨.hbm, 373, rfl⟩
abbrev main_call18_v0 : Ref sig .tc := ⟨.hbm, 374, rfl⟩
abbrev main_call18_v1 : Ref sig .tc := ⟨.hbm, 375, rfl⟩
abbrev main_v127 : Ref sig .tc := ⟨.hbm, 376, rfl⟩
abbrev main_v128 : Ref sig .tc := ⟨.hbm, 377, rfl⟩
abbrev main_v129 : Ref sig .tc := ⟨.hbm, 378, rfl⟩
abbrev main_cst_33 : Ref sig .tc := ⟨.hbm, 379, rfl⟩
abbrev main_v130 : Ref sig .tc := ⟨.hbm, 380, rfl⟩
abbrev main_v131 : Ref sig .tc := ⟨.hbm, 381, rfl⟩
abbrev main_cst_34 : Ref sig .tc := ⟨.hbm, 382, rfl⟩
abbrev main_v132 : Ref sig .tc := ⟨.hbm, 383, rfl⟩
abbrev main_v133 : Ref sig .tc := ⟨.hbm, 384, rfl⟩
abbrev main_v134 : Ref sig .tc := ⟨.hbm, 385, rfl⟩
abbrev main_v135 : Ref sig .tc := ⟨.hbm, 386, rfl⟩
abbrev main_v136 : Ref sig .tc := ⟨.hbm, 387, rfl⟩
abbrev main_v137 : Ref sig .tc := ⟨.hbm, 388, rfl⟩

abbrev nD : Nat := 1
abbrev τ : Topo := Topo.v7x

variable {F : FTy → Type} [FloatOps F]
-- ==== Proof.Spec.lean ====
/- The normalizing flow over the real numbers: what one column of the input becomes, as both programs compute it.
   A column is the 8192 values of one batch element and one channel. Its mean, deviation, skewness and excess kurtosis
   feed a two-layer network, whose 25 outputs are the widths, heights and end slopes of a rational-quadratic spline of
   eight pieces on [-5, 5]; the standardized value is sent through that spline inside the interval and kept outside it.
   Both programs' values are shown to be `result` of the column (KernelArray.lean, RefValue.lean). -/
module

public import Idealize.ShloMosaic.PureOps.Ideal
public import Mathlib.Analysis.SpecialFunctions.Log.Basic

@[expose] public section

noncomputable section

namespace Cert.Flow

open Finset

/-- The least deviation: the single-precision number nearest 1e-4. -/
def sigMin : ℝ := 13743895 / 2 ^ 37

/-- The least width and the least denominator: the single-precision number nearest 1e-8. -/
def tiny : ℝ := 11258999 / 2 ^ 50

/-- The least slope: the single-precision number nearest 1e-3. -/
def minDeriv : ℝ := 8589935 / 2 ^ 33

/-- The least deviation is positive. -/
theorem sigMin_pos : 0 < sigMin := by unfold sigMin; norm_num
/-- The least denominator is positive. -/
theorem tiny_pos : 0 < tiny := by unfold tiny; norm_num

/-! ## The moments of a column -/

/-- A column's mean. -/
def mean (x : Fin 8192 → ℝ) : ℝ := (∑ t, x t) / 8192

/-- A column's deviation, with 8191 degrees of freedom, at least `sigMin`. -/
def dev (x : Fin 8192 → ℝ) : ℝ := max (√((∑ t, (x t - mean x) ^ 2) / 8191)) sigMin

/-- A column's values standardized. -/
def std (x : Fin 8192 → ℝ) (t : Fin 8192) : ℝ := (x t - mean x) / dev x

/-- A column's skewness. -/
def skew (x : Fin 8192 → ℝ) : ℝ := (∑ t, std x t ^ 3) / 8192

/-- A column's excess kurtosis. -/
def ekurt (x : Fin 8192 → ℝ) : ℝ := (∑ t, std x t ^ 4) / 8192 - 3

/-- A deviation is positive. -/
theorem dev_pos (x : Fin 8192 → ℝ) : 0 < dev x := lt_max_of_lt_right sigMin_pos

/-- The squared distances from the mean, from the sums of the values and of their squares. -/
theorem sum_sq (x : Fin 8192 → ℝ) : ∑ t, (x t - mean x) ^ 2 = (∑ t, x t ^ 2) - 8192 * mean x ^ 2 := by
  have h : ∑ t, x t = 8192 * mean x := by unfold mean; ring
  generalize mean x = m at *
  have e : ∀ t, (x t - m) ^ 2 = x t ^ 2 - (2 * m) * x t + m ^ 2 := fun t => by ring
  simp only [e, sum_add_distrib, sum_sub_distrib, ← mul_sum, h, sum_const, card_univ, Fintype.card_fin, nsmul_eq_mul]
  push_cast; ring

/-- The cubed distances from the mean, from the power sums. -/
theorem sum_cube (x : Fin 8192 → ℝ) :
    ∑ t, (x t - mean x) ^ 3 = (∑ t, x t ^ 3) - 3 * mean x * (∑ t, x t ^ 2) + 16384 * mean x ^ 3 := by
  have h : ∑ t, x t = 8192 * mean x := by unfold mean; ring
  generalize mean x = m at *
  have e : ∀ t, (x t - m) ^ 3 = x t ^ 3 - (3 * m) * x t ^ 2 + (3 * m ^ 2) * x t - m ^ 3 := fun t => by ring
  simp only [e, sum_add_distrib, sum_sub_distrib, ← mul_sum, h, sum_const, card_univ, Fintype.card_fin, nsmul_eq_mul]
  push_cast; ring

/-- The fourth powers of the distances from the mean, from the power sums. -/
theorem sum_four (x : Fin 8192 → ℝ) :
    ∑ t, (x t - mean x) ^ 4
      = (∑ t, x t ^ 4) - 4 * mean x * (∑ t, x t ^ 3) + 6 * mean x ^ 2 * (∑ t, x t ^ 2) - 24576 * mean x ^ 4 := by
  have h : ∑ t, x t = 8192 * mean x := by unfold mean; ring
  generalize mean x = m at *
  have e : ∀ t, (x t - m) ^ 4 = x t ^ 4 - (4 * m) * x t ^ 3 + (6 * m ^ 2) * x t ^ 2 - (4 * m ^ 3) * x t + m ^ 4 :=
    fun t => by ring
  simp only [e, sum_add_distrib, sum_sub_distrib, ← mul_sum, h, sum_const, card_univ, Fintype.card_fin, nsmul_eq_mul]
  push_cast; ring

/-- The powers of the standardized values sum to the powers of the distances over the deviation's power. -/
theorem sum_std_pow (x : Fin 8192 → ℝ) (n : ℕ) : ∑ t, std x t ^ n = (∑ t, (x t - mean x) ^ n) / dev x ^ n := by
  simp only [std, div_pow, sum_div]

/-! ## The network -/

/-- The weights of the two-layer network. -/
structure Net where
  /-- the first layer's weights -/
  W1 : Fin 2 → Fin 32 → ℝ
  /-- the first layer's offsets -/
  b1 : Fin 32 → ℝ
  /-- the second layer's weights -/
  W2 : Fin 32 → Fin 25 → ℝ
  /-- the second layer's offsets -/
  b2 : Fin 25 → ℝ

/-- The hidden unit `h` at the two statistics. -/
def hid (N : Net) (s k : ℝ) (h : Fin 32) : ℝ := max (s * N.W1 0 h + k * N.W1 1 h + N.b1 h) 0

/-- The output `o` of the network at the two statistics. -/
def raw (N : Net) (s k : ℝ) (o : Fin 25) : ℝ := (∑ h, hid N s k h * N.W2 h o) + N.b2 o

/-- A softmax over eight numbers, scaled to sum to ten. -/
def share (r : Fin 8 → ℝ) (j : Fin 8) : ℝ := Real.exp (r j) / (∑ k, Real.exp (r k)) * 10

/-- The softplus of a number, plus `minDeriv`. -/
def slope (r : ℝ) : ℝ := max r 0 + Real.log (1 + Real.exp (-|r|)) + minDeriv

/-- A share is positive. -/
theorem share_pos (r : Fin 8 → ℝ) (j : Fin 8) : 0 < share r j := by
  unfold share; positivity

/-- A softmax is unchanged when one number is taken from every exponent. -/
theorem share_shift (r : Fin 8 → ℝ) (M : ℝ) (j : Fin 8) :
    Real.exp (r j - M) / (∑ k, Real.exp (r k - M)) * 10 = share r j := by
  have h : ∑ k, Real.exp (r k) ≠ 0 := by positivity
  have hM : Real.exp M ≠ 0 := (Real.exp_pos M).ne'
  unfold share
  simp only [Real.exp_sub, ← sum_div]
  field_simp

/-- The spline's parameters: eight widths, eight heights, nine slopes. -/
structure Par where
  /-- the pieces' widths -/
  w : Fin 8 → ℝ
  /-- the pieces' heights -/
  h : Fin 8 → ℝ
  /-- the slopes at the knots -/
  d : Fin 9 → ℝ

/-- The spline the network gives at the two statistics. -/
def par (N : Net) (s k : ℝ) : Par where
  w := share fun i => raw N s k ⟨i.val, by omega⟩
  h := share fun i => raw N s k ⟨8 + i.val, by omega⟩
  d := fun i => slope (raw N s k ⟨16 + i.val, by omega⟩)

/-- Every piece has some width. -/
theorem par_w_pos (N : Net) (s k : ℝ) (i : Fin 8) : 0 < (par N s k).w i :=
  share_pos (fun i => raw N s k ⟨i.val, by omega⟩) i

/-! ## The spline -/

/-- The knots: -5 and the running sums from it. -/
def knot (w : Fin 8 → ℝ) (j : Fin 9) : ℝ := -5 + ∑ i : Fin 8, if i.val < j.val then w i else 0

/-- A piece's height over its width, the width at least `tiny`. -/
def rate (p : Par) (k : Fin 8) : ℝ := p.h k / max (p.w k) tiny

/-- The piece that holds `z`: the last whose left knot is at most `z`, the first when none is. -/
def bin (kx : Fin 9 → ℝ) (z : ℝ) : Fin 8 :=
  if kx 7 ≤ z then 7 else if kx 6 ≤ z then 6 else if kx 5 ≤ z then 5 else if kx 4 ≤ z then 4
  else if kx 3 ≤ z then 3 else if kx 2 ≤ z then 2 else if kx 1 ≤ z then 1 else 0

/-- Where `z` is within piece `k`, from 0 to 1. -/
def zeta (p : Par) (z : ℝ) (k : Fin 8) : ℝ := min (max ((z - knot p.w k.castSucc) / max (p.w k) tiny) 0) 1

/-- The rational-quadratic spline on piece `k`. -/
def piece (p : Par) (z : ℝ) (k : Fin 8) : ℝ :=
  knot p.h k.castSucc
    + p.h k * (rate p k * zeta p z k ^ 2 + p.d k.castSucc * zeta p z k * (1 - zeta p z k))
      / max (rate p k + (p.d k.succ + p.d k.castSucc - 2 * rate p k) * zeta p z k * (1 - zeta p z k)) tiny

/-- The flow: the spline inside [-5, 5], the identity outside. -/
def flow (p : Par) (z : ℝ) : ℝ := if z < -5 ∨ 5 < z then z else piece p z (bin (knot p.w) z)

/-- The number a column's value at `t` becomes. -/
def result (N : Net) (x : Fin 8192 → ℝ) (t : Fin 8192) : ℝ := flow (par N (skew x) (ekurt x)) (std x t)

/-- Successive knots differ by the width between them. -/
theorem knot_succ (w : Fin 8 → ℝ) (k : Fin 8) : knot w k.succ = knot w k.castSucc + w k := by
  have e : ∀ i : Fin 8, (if i.val < k.succ.val then w i else 0) = (if i.val < k.castSucc.val then w i else 0) + if i = k then w i else 0 := by
    intro i
    simp only [Fin.val_succ, Fin.val_castSucc, Fin.ext_iff]
    split_ifs <;> first | omega | simp
  unfold knot
  simp only [e, sum_add_distrib, sum_ite_eq', mem_univ, if_true]
  ring

/-- The first knot is -5. -/
theorem knot_zero (w : Fin 8 → ℝ) : knot w 0 = -5 := by simp [knot]

/-- The knots increase, the widths being positive. -/
theorem knot_lt (w : Fin 8 → ℝ) (hw : ∀ k, 0 < w k) (k : Fin 8) : knot w k.castSucc < knot w k.succ := by
  rw [knot_succ]; linarith [hw k]

/-- The knots written out. -/
theorem knots (w : Fin 8 → ℝ) :
    knot w 0 = -5 ∧ knot w 1 = knot w 0 + w 0 ∧ knot w 2 = knot w 1 + w 1 ∧ knot w 3 = knot w 2 + w 2 ∧ knot w 4 = knot w 3 + w 3
      ∧ knot w 5 = knot w 4 + w 4 ∧ knot w 6 = knot w 5 + w 5 ∧ knot w 7 = knot w 6 + w 6 ∧ knot w 8 = knot w 7 + w 7 :=
  ⟨knot_zero w, knot_succ w 0, knot_succ w 1, knot_succ w 2, knot_succ w 3, knot_succ w 4, knot_succ w 5, knot_succ w 6, knot_succ w 7⟩

/-- How many of nine nested conditions hold, less one and kept within 0 to 7: the last of them that holds. -/
theorem count_eq (p0 p1 p2 p3 p4 p5 p6 p7 p8 : Prop) [Decidable p0] [Decidable p1] [Decidable p2] [Decidable p3]
    [Decidable p4] [Decidable p5] [Decidable p6] [Decidable p7] [Decidable p8] (a0 : p1 → p0) (a1 : p2 → p1)
    (a2 : p3 → p2) (a3 : p4 → p3) (a4 : p5 → p4) (a5 : p6 → p5) (a6 : p7 → p6) (a7 : p8 → p7) :
    min ((if p0 then 1 else 0) + ((if p1 then 1 else 0) + ((if p2 then 1 else 0) + ((if p3 then 1 else 0)
      + ((if p4 then 1 else 0) + ((if p5 then 1 else 0) + ((if p6 then 1 else 0) + ((if p7 then 1 else 0)
      + (if p8 then 1 else 0)))))))) - 1) 7
    = if p7 then 7 else if p6 then 6 else if p5 then 5 else if p4 then 4
      else if p3 then 3 else if p2 then 2 else if p1 then 1 else 0 := by
  by_cases c7 : p7
  · simp_all
    omega
  by_cases c6 : p6
  · simp_all
  by_cases c5 : p5
  · simp_all
  by_cases c4 : p4
  · simp_all
  by_cases c3 : p3
  · simp_all
  by_cases c2 : p2
  · simp_all
  by_cases c1 : p1
  · simp_all
  by_cases c0 : p0 <;> simp_all

/-- Adding up the steps of `v` whose condition, of seven nested ones, holds: the entry of the last that holds. -/
theorem steps_eq (p1 p2 p3 p4 p5 p6 p7 : Prop) [Decidable p1] [Decidable p2] [Decidable p3] [Decidable p4]
    [Decidable p5] [Decidable p6] [Decidable p7] (a1 : p2 → p1) (a2 : p3 → p2) (a3 : p4 → p3) (a4 : p5 → p4)
    (a5 : p6 → p5) (a6 : p7 → p6) (v : Fin 8 → ℝ) :
    (if p1 then 1 else 0) * (v 1 - v 0) + v 0 + (if p2 then 1 else 0) * (v 2 - v 1) + (if p3 then 1 else 0) * (v 3 - v 2)
      + (if p4 then 1 else 0) * (v 4 - v 3) + (if p5 then 1 else 0) * (v 5 - v 4) + (if p6 then 1 else 0) * (v 6 - v 5)
      + (if p7 then 1 else 0) * (v 7 - v 6)
    = v (if p7 then 7 else if p6 then 6 else if p5 then 5 else if p4 then 4
      else if p3 then 3 else if p2 then 2 else if p1 then 1 else 0) := by
  by_cases c7 : p7
  · simp_all
  by_cases c6 : p6
  · simp_all
  by_cases c5 : p5
  · simp_all
  by_cases c4 : p4
  · simp_all
  by_cases c3 : p3
  · simp_all
  by_cases c2 : p2
  · simp_all
  by_cases c1 : p1 <;> simp_all

/-- A number past a knot is past the knot before it. -/
theorem knot_le (w : Fin 8 → ℝ) (hw : ∀ k, 0 < w k) (z : ℝ) (k : Fin 8) (h : knot w k.succ ≤ z) : knot w k.castSucc ≤ z :=
  (knot_lt w hw k).le.trans h

/-- How many of the nine knots are at most `z`, less one and kept within 0 to 7, is the piece that holds `z`. -/
theorem bin_eq_count (w : Fin 8 → ℝ) (hw : ∀ k, 0 < w k) (z : ℝ) :
    min ((∑ j : Fin 9, if knot w j ≤ z then 1 else 0) - 1) 7 = (bin (knot w) z).val := by
  have n := knot_le w hw z
  have h := count_eq _ _ _ _ _ _ _ _ _ (n 0) (n 1) (n 2) (n 3) (n 4) (n 5) (n 6) (n 7)
  simp only [Fin.sum_univ_succ, Fin.sum_univ_zero]
  refine h.trans ?_
  unfold bin
  simp only [apply_ite Fin.val]
  rfl

/-- Picking the entry of the piece that holds `z` by adding up the steps whose knot is at most `z`. -/
theorem pick_eq (w : Fin 8 → ℝ) (hw : ∀ k, 0 < w k) (z : ℝ) (v : Fin 8 → ℝ) :
    (if knot w 1 ≤ z then 1 else 0) * (v 1 - v 0) + v 0 + (if knot w 2 ≤ z then 1 else 0) * (v 2 - v 1)
      + (if knot w 3 ≤ z then 1 else 0) * (v 3 - v 2) + (if knot w 4 ≤ z then 1 else 0) * (v 4 - v 3)
      + (if knot w 5 ≤ z then 1 else 0) * (v 5 - v 4) + (if knot w 6 ≤ z then 1 else 0) * (v 6 - v 5)
      + (if knot w 7 ≤ z then 1 else 0) * (v 7 - v 6) = v (bin (knot w) z) := by
  have n := knot_le w hw z
  exact steps_eq _ _ _ _ _ _ _ (n 1) (n 2) (n 3) (n 4) (n 5) (n 6) v

end Cert.Flow

end
-- ==== Proof.Lift.lean ====
/- The ideal numbers' operations on real numbers: each is the real operation, where the real operation is defined.
   Also the single-precision constants the two programs hold, as the real numbers they denote. -/
module

public import Idealize.ShloMosaic.PureOps.Ideal
public import proofs.«01_k».proof.Proof.Spec

@[expose] public section

noncomputable section

namespace Cert.Lift

open Idealize.ShloMosaic Cert.Flow

/-- A quotient of reals by a number other than zero. -/
theorem div_coe (a b : ℝ) (h : b ≠ 0) : Ideal.div (a : EReal) (b : EReal) = ((a / b : ℝ) : EReal) := by
  rw [Ideal.div_coe h, ← EReal.coe_mul, mul_one_div]

/-- The greater of two real numbers. -/
theorem max_coe (a b : ℝ) : max (a : EReal) (b : EReal) = ((max a b : ℝ) : EReal) :=
  (EReal.coe_strictMono.monotone.map_max).symm

/-- The smaller of two real numbers. -/
theorem min_coe (a b : ℝ) : min (a : EReal) (b : EReal) = ((min a b : ℝ) : EReal) :=
  (EReal.coe_strictMono.monotone.map_min).symm

/-- The absolute value of a real number. -/
theorem abs_coe (a : ℝ) : max (a : EReal) (-(a : EReal)) = ((|a| : ℝ) : EReal) := by
  rw [← EReal.coe_neg, max_coe, abs_eq_max_neg]

/-- The square root of a real number that is not negative. -/
theorem sqrt_coe (a : ℝ) (h : 0 ≤ a) : Ideal.sqrt (a : EReal) = ((√a : ℝ) : EReal) := by
  show (if a < 0 then ⊥ else _) = _
  rw [if_neg (not_lt.mpr h)]

/-- The exponential of a real number. -/
theorem exp_coe (a : ℝ) : Ideal.exp (a : EReal) = ((Real.exp a : ℝ) : EReal) := rfl

/-- The logarithm of a positive real number. -/
theorem log_coe (a : ℝ) (h : 0 < a) : Ideal.log (a : EReal) = ((Real.log a : ℝ) : EReal) := by
  show (if a ≤ 0 then ⊥ else _) = _
  rw [if_neg (not_le.mpr h)]

/-- A finite sum of reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## Elementwise operations at an index -/

/-- A square root of an array, at an index. -/
theorem sqrt_at {s : Shape} (v : FVec Ideal s .f32) (j : s.Idx) : sqrt v j = Ideal.sqrt (v j) := rfl
/-- An exponential of an array, at an index. -/
theorem exp_at {s : Shape} (v : FVec Ideal s .f32) (j : s.Idx) : exp v j = Ideal.exp (v j) := rfl
/-- A logarithm of an array, at an index. -/
theorem log_at {s : Shape} (v : FVec Ideal s .f32) (j : s.Idx) : log v j = Ideal.log (v j) := rfl
/-- An absolute value of an array, at an index. -/
theorem abs_at {s : Shape} (v : FVec Ideal s .f32) (j : s.Idx) : absf v j = max (v j) (-(v j)) := rfl

/-! ## The constants -/

/-- The constant 0. -/
theorem ofBits_0 : Ideal.ofBits .f32 0x00000000#32 = ((0 : ℝ) : EReal) := by
  simp [Ideal.ofBits, Ideal.ieee, -EReal.coe_mul]
/-- The constant 1. -/
theorem ofBits_1 : Ideal.ofBits .f32 0x3F800000#32 = ((1 : ℝ) : EReal) := by
  simp [Ideal.ofBits, Ideal.ieee, -EReal.coe_mul]; norm_num
/-- The constant 2. -/
theorem ofBits_2 : Ideal.ofBits .f32 0x40000000#32 = ((2 : ℝ) : EReal) := by
  simp [Ideal.ofBits, Ideal.ieee, -EReal.coe_mul]; norm_num
/-- The constant 3. -/
theorem ofBits_3 : Ideal.ofBits .f32 0x40400000#32 = ((3 : ℝ) : EReal) := by
  simp [Ideal.ofBits, Ideal.ieee, -EReal.coe_mul]; norm_num
/-- The constant 4. -/
theorem ofBits_4 : Ideal.ofBits .f32 0x40800000#32 = ((4 : ℝ) : EReal) := by
  simp [Ideal.ofBits, Ideal.ieee, -EReal.coe_mul]; norm_num
/-- The constant 5. -/
theorem ofBits_5 : Ideal.ofBits .f32 0x40A00000#32 = ((5 : ℝ) : EReal) := by
  simp [Ideal.ofBits, Ideal.ieee, -EReal.coe_mul]; norm_num
/-- The constant 6. -/
theorem ofBits_6 : Ideal.ofBits .f32 0x40C00000#32 = ((6 : ℝ) : EReal) := by
  simp [Ideal.ofBits, Ideal.ieee, -EReal.coe_mul]; norm_num
/-- The constant 10. -/
theorem ofBits_10 : Ideal.ofBits .f32 0x41200000#32 = ((10 : ℝ) : EReal) := by
  simp [Ideal.ofBits, Ideal.ieee, -EReal.coe_mul]; norm_num
/-- The constant 8191. -/
theorem ofBits_8191 : Ideal.ofBits .f32 0x45FFF800#32 = ((8191 : ℝ) : EReal) := by
  simp [Ideal.ofBits, Ideal.ieee, -EReal.coe_mul]; norm_num
/-- The constant 8192. -/
theorem ofBits_8192 : Ideal.ofBits .f32 0x46000000#32 = ((8192 : ℝ) : EReal) := by
  simp [Ideal.ofBits, Ideal.ieee, -EReal.coe_mul]; norm_num
/-- The constant 16384. -/
theorem ofBits_16384 : Ideal.ofBits .f32 0x46800000#32 = ((16384 : ℝ) : EReal) := by
  simp [Ideal.ofBits, Ideal.ieee, -EReal.coe_mul]; norm_num
/-- The constant 24576. -/
theorem ofBits_24576 : Ideal.ofBits .f32 0x46C00000#32 = ((24576 : ℝ) : EReal) := by
  simp [Ideal.ofBits, Ideal.ieee, -EReal.coe_mul]; norm_num
/-- The constant -5. -/
theorem ofBits_neg5 : Ideal.ofBits .f32 0xC0A00000#32 = ((-5 : ℝ) : EReal) := by
  simp [Ideal.ofBits, Ideal.ieee, -EReal.coe_mul, -EReal.coe_neg]; norm_num
/-- The least deviation, 1e-4 rounded to single precision. -/
theorem ofBits_sigMin : Ideal.ofBits .f32 0x38D1B717#32 = ((sigMin : ℝ) : EReal) := by
  simp [Ideal.ofBits, Ideal.ieee, -EReal.coe_mul, sigMin]; norm_num
/-- The least denominator, 1e-8 rounded to single precision. -/
theorem ofBits_tiny : Ideal.ofBits .f32 0x322BCC77#32 = ((tiny : ℝ) : EReal) := by
  simp [Ideal.ofBits, Ideal.ieee, -EReal.coe_mul, tiny]; norm_num
/-- The least slope, 1e-3 rounded to single precision. -/
theorem ofBits_minDeriv : Ideal.ofBits .f32 0x3A83126F#32 = ((minDeriv : ℝ) : EReal) := by
  simp [Ideal.ofBits, Ideal.ieee, -EReal.coe_mul, minDeriv]; norm_num
/-- Minus infinity. -/
theorem ofBits_negInf : Ideal.ofBits .f32 0xFF800000#32 = (⊥ : EReal) := by
  simp [Ideal.ofBits, Ideal.ieee]

end Cert.Lift

end
-- ==== Proof.KernelMoments.lean ====
/- The kernel's first loop: at a lane whose rows hold real numbers, the four rows it carries end as the column's sums of
   the first four powers. -/
module

public import proofs.«01_k».proof.Proof.Gen.KernelIdeal.Value
public import Idealize.ShloMosaic.PureOps.Ideal
public import Idealize.ShloMosaic.Lib.ValueIdx
public import Idealize.ShloMosaic.Lib.Pipeline.ValueKit.Tiles
public import Idealize.ShloMosaic.Lib.ValueLayout
public import Idealize.ShloMosaic.PureOps.Ideal.Laws
public import proofs.«01_k».proof.Proof.Lift

@[expose] public section

noncomputable section

namespace Cert.KernelValue

open Cert.KernelIdeal Cert.KernelIdeal.Gen Idealize.ShloMosaic Idealize.ShloMosaic.TcCoe Idealize.ShloMosaic.ValueIdx
open Idealize.ShloMosaic.Tactic Cert.Flow Cert.Lift

/-- Row `r` of chunk `k`. -/
abbrev row (k : Fin 16) (r : Fin 512) : Fin 8192 := ⟨512 * k.val + r.val, by omega⟩

variable (c : Dev nD) (i : grid0.Coords) (arg1 : Memref sig .tc .smem S2x32 .f32) (harg1 : arg1.IsWhole)
  (arg2 : Memref sig .tc .smem S32 .f32) (harg2 : arg2.IsWhole) (arg3 : Memref sig .tc .smem S32x25 .f32) (harg3 : arg3.IsWhole)
  (arg4 : Memref sig .tc .smem S25 .f32) (harg4 : arg4.IsWhole) (arg5 : Memref sig .tc .vmem S1x8192x256 .f32) (harg5 : arg5.IsWhole)
  (arg6 : Memref sig .tc .vmem S1x8192x256 .f32) (harg6 : arg6.IsWhole) (X : Vec Ideal S1x8192x256 .f32)

/-- The values a chunk loads. -/
abbrev chunk (X : Vec Ideal S1x8192x256 .f32) (k : Fin 16) (r : Fin 512) (l : Fin 256) : EReal := X (ix3 0 (row k r) l)

/-- Trip `k` of either loop starts at row `512 k`. -/
theorem off_eq : ∀ k : Fin 16, BitVec.toNat (Scalar.indexCast (Scalar.muli (Scf.iv 0#32 1#32 k.val) 512#32)) = 512 * k.val := by
  decide +kernel

/-- A chunk's load, at its row and lane. -/
theorem ld_chunk (k : Fin 16) (off : Fin 3 → Nat) (inb) (ho : off = ![0, 512 * k.val, 0]) (r : Fin 512) (l : Fin 256) :
    View.ld (Val := Elt Ideal) X (Rect.unit off ![1, 512, 256] inb) (ix3 (0 : Fin 1) r l) = chunk X k r l := by
  subst ho
  refine View.ld_unit_apply_of _ _ _ _ _ (ix3 (0 : Fin 1) (row k r) l) fun a => ?_
  match a with
  | ⟨0, _⟩ => rfl
  | ⟨1, _⟩ => rfl
  | ⟨2, _⟩ => exact (Nat.zero_add _).symm

/-- A reduction of a chunk over its rows, at a lane. -/
theorem colsum (v : FVec Ideal S512x256 .f32) (h hφ hacc) (l : Fin 256) :
    multiReduction .add [0] S256 v 0x00000000#32 h hφ hacc (ix1 l) = ∑ r : Fin 512, v (ix2 r l) := by
  rw [Ideal.multiReduction_add_single]
  refine Finset.sum_congr rfl fun r _ => congrArg v ?_
  funext a
  match a with
  | ⟨0, _⟩ => rfl
  | ⟨1, _⟩ => rfl

/-- One trip of the first loop adds the chunk's four power sums. -/
theorem trip1 (k : Fin 16) (acc : FVec Ideal S1x256 .f32 × FVec Ideal S1x256 .f32 × FVec Ideal S1x256 .f32 × FVec Ideal S1x256 .f32)
    (l : Fin 256) :
    let y := tripR_k0_t1 (F := Ideal) Variants.none c none i arg1 harg1 arg2 harg2 arg3 harg3 arg4 harg4 arg5 harg5 arg6 harg6 (harg5.unread X) k acc
    y.1 (ix2 0 l) = acc.1 (ix2 0 l) + ∑ r, chunk X k r l
      ∧ y.2.1 (ix2 0 l) = acc.2.1 (ix2 0 l) + ∑ r, chunk X k r l * chunk X k r l
      ∧ y.2.2.1 (ix2 0 l) = acc.2.2.1 (ix2 0 l) + ∑ r, chunk X k r l * chunk X k r l * chunk X k r l
      ∧ y.2.2.2 (ix2 0 l) = acc.2.2.2 (ix2 0 l) + ∑ r, chunk X k r l * chunk X k r l * (chunk X k r l * chunk X k r l) := by
  dsimp only
  unfold tripR_k0_t1 trip_k0_t1
  dsimp only
  sl_unfold_words
  simp only [View.readAt_eq_ld, harg5.read_unread]
  have h := ld_chunk X k _ (k0_off1_inb k) (by unfold k0_off1; dsimp only; rw [off_eq k])
  have hv : ∀ r, shapeCast S512x256 (View.ld (Val := Elt Ideal) X (Rect.unit (k0_off1 k) ![1, 512, 256] (k0_off1_inb k)))
      shapeCasts_S1x512x256_S512x256 (ix2 r l) = chunk X k r l := fun r => (shapeCast_1ab_ab_apply _ _ r l).trans (h r l)
  refine ⟨?_, ?_, ?_, ?_⟩
  · refine congrArg (_ + ·) ((shapeCast_a_1a_apply _ _ _ _).trans ((colsum _ _ _ _ l).trans (Finset.sum_congr rfl fun r _ => ?_)))
    exact hv r
  · refine congrArg (_ + ·) ((shapeCast_a_1a_apply _ _ _ _).trans ((colsum _ _ _ _ l).trans (Finset.sum_congr rfl fun r _ => ?_)))
    exact congrArg₂ (· * ·) (hv r) (hv r)
  · refine congrArg (_ + ·) ((shapeCast_a_1a_apply _ _ _ _).trans ((colsum _ _ _ _ l).trans (Finset.sum_congr rfl fun r _ => ?_)))
    exact congrArg₂ (· * ·) (congrArg₂ (· * ·) (hv r) (hv r)) (hv r)
  · refine congrArg (_ + ·) ((shapeCast_a_1a_apply _ _ _ _).trans ((colsum _ _ _ _ l).trans (Finset.sum_congr rfl fun r _ => ?_)))
    exact congrArg₂ (· * ·) (congrArg₂ (· * ·) (hv r) (hv r)) (congrArg₂ (· * ·) (hv r) (hv r))

/-- What the first loop has added up before trip `k`: the sum of `f` over the rows of the chunks before it. -/
def upto (f : Fin 8192 → ℝ) (k : ℕ) : ℝ :=
  ∑ j ∈ Finset.range k, if h : j < 16 then ∑ r : Fin 512, f (row ⟨j, h⟩ r) else 0

/-- A sum over one more chunk is the sum so far and the sum over the chunk. -/
theorem upto_succ (f : Fin 8192 → ℝ) (k : Fin 16) : upto f (k.val + 1) = upto f k.val + ∑ r, f (row k r) := by
  unfold upto
  rw [Finset.sum_range_succ, dif_pos k.isLt]

/-- Over all sixteen chunks it is the sum over all rows. -/
theorem upto_all (f : Fin 8192 → ℝ) : upto f 16 = ∑ t, f t := by
  unfold upto
  rw [Finset.sum_range]
  simp only [Fin.is_lt, dif_pos, Fin.eta]
  rw [← Fintype.sum_prod_type' (fun (k : Fin 16) (r : Fin 512) => f (row k r))]
  refine Fintype.sum_equiv (finProdFinEquiv (m := 16) (n := 512)) _ _ fun p => congrArg f (Fin.ext ?_)
  show 512 * p.1.val + p.2.val = p.2.val + 512 * p.1.val
  omega

/-- The first loop's four carried values before trip `k`, at a lane whose values are the real numbers `x`. -/
theorem moments (l : Fin 256) (x : Fin 8192 → ℝ) (hx : ∀ t, X (ix3 0 t l) = ((x t : ℝ) : EReal)) (k : ℕ) (hk : k ≤ 16) :
    let y := st_k0_t1 (F := Ideal) Variants.none c none i arg1 harg1 arg2 harg2 arg3 harg3 arg4 harg4 arg5 harg5 arg6 harg6 (harg5.unread X) (k0_pay23, k0_pay23, k0_pay23, k0_pay23) k
    y.1 (ix2 0 l) = ((upto x k : ℝ) : EReal) ∧ y.2.1 (ix2 0 l) = ((upto (fun t => x t ^ 2) k : ℝ) : EReal)
      ∧ y.2.2.1 (ix2 0 l) = ((upto (fun t => x t ^ 3) k : ℝ) : EReal)
      ∧ y.2.2.2 (ix2 0 l) = ((upto (fun t => x t ^ 4) k : ℝ) : EReal) := by
  induction k with
  | zero =>
    have h0 : (k0_pay23 (F := Ideal)) (ix2 0 l) = ((0 : ℝ) : EReal) := ofBits_0
    have hu : ∀ f, upto f 0 = 0 := fun f => Finset.sum_range_zero _
    simp only [hu]
    exact ⟨h0, h0, h0, h0⟩
  | succ k ih =>
    have ih := ih (by omega)
    have t := trip1 c i arg1 harg1 arg2 harg2 arg3 harg3 arg4 harg4 arg5 harg5 arg6 harg6 X ⟨k, by omega⟩
      (st_k0_t1 (F := Ideal) Variants.none c none i arg1 harg1 arg2 harg2 arg3 harg3 arg4 harg4 arg5 harg5 arg6 harg6 (harg5.unread X) (k0_pay23, k0_pay23, k0_pay23, k0_pay23) k) l
    have e : st_k0_t1 (F := Ideal) Variants.none c none i arg1 harg1 arg2 harg2 arg3 harg3 arg4 harg4 arg5 harg5 arg6 harg6 (harg5.unread X) (k0_pay23, k0_pay23, k0_pay23, k0_pay23) (k + 1) = _ :=
      st_k0_t1_succ (F := Ideal) Variants.none c none i arg1 harg1 arg2 harg2 arg3 harg3 arg4 harg4 arg5 harg5 arg6 harg6 (harg5.unread X) (k0_pay23, k0_pay23, k0_pay23, k0_pay23) ⟨k, by change k < 16; omega⟩
    dsimp only at ih t ⊢
    rw [e]
    have hs := fun f => upto_succ f ⟨k, by omega⟩
    dsimp only at hs
    simp only [hs, EReal.coe_add, ← sum_coe]
    refine ⟨t.1.trans ?_, t.2.1.trans ?_, t.2.2.1.trans ?_, t.2.2.2.trans ?_⟩
    · rw [ih.1]; simp only [chunk, hx]
    · rw [ih.2.1]; simp only [chunk, hx, ← EReal.coe_mul]
      exact congrArg (_ + ·) (Finset.sum_congr rfl fun r _ => congrArg _ (by ring))
    · rw [ih.2.2.1]; simp only [chunk, hx, ← EReal.coe_mul]
      exact congrArg (_ + ·) (Finset.sum_congr rfl fun r _ => congrArg _ (by ring))
    · rw [ih.2.2.2]; simp only [chunk, hx, ← EReal.coe_mul]
      exact congrArg (_ + ·) (Finset.sum_congr rfl fun r _ => congrArg _ (by ring))

end Cert.KernelValue

end
-- ==== Proof.KernelStats.lean ====
/- The kernel's statistics of a column, at a lane: the mean, the deviation and its inverse, the skewness and the excess
   kurtosis, from the four power sums the first loop leaves. -/
module

public import proofs.«01_k».proof.Proof.KernelMoments

@[expose] public section

noncomputable section

namespace Cert.KernelValue

open Cert.KernelIdeal Cert.KernelIdeal.Gen Idealize.ShloMosaic Idealize.ShloMosaic.TcCoe Idealize.ShloMosaic.ValueIdx
open Idealize.ShloMosaic.Tactic Cert.Flow Cert.Lift

/-- The deviation from the power sums. -/
theorem dev_of_sums (x : Fin 8192 → ℝ) :
    max (√(((∑ t, x t ^ 2) - 8192 * (mean x * mean x)) / 8191)) sigMin = dev x ∧ 0 ≤ ((∑ t, x t ^ 2) - 8192 * (mean x * mean x)) / 8191 := by
  have h := sum_sq x
  rw [pow_two (mean x)] at h
  rw [← h]
  exact ⟨rfl, div_nonneg (Finset.sum_nonneg fun t _ => sq_nonneg _) (by norm_num)⟩

/-- The skewness from the power sums. -/
theorem skew_of_sums (x : Fin 8192 → ℝ) :
    ((∑ t, x t ^ 3) - 3 * mean x * (∑ t, x t ^ 2) + 16384 * mean x * (mean x * mean x)) * ((1 / dev x) * (1 / dev x)) * (1 / dev x) / 8192
      = skew x := by
  have h := sum_cube x
  unfold skew
  rw [sum_std_pow, h]
  have := (dev_pos x).ne'
  field_simp

/-- The excess kurtosis from the power sums. -/
theorem ekurt_of_sums (x : Fin 8192 → ℝ) :
    ((∑ t, x t ^ 4) - 4 * mean x * (∑ t, x t ^ 3) + 6 * (mean x * mean x) * (∑ t, x t ^ 2) - 24576 * (mean x * mean x) * (mean x * mean x))
        * ((1 / dev x) * (1 / dev x)) * ((1 / dev x) * (1 / dev x)) / 8192 - 3 = ekurt x := by
  have h := sum_four x
  unfold ekurt
  rw [sum_std_pow, h]
  have := (dev_pos x).ne'
  field_simp

/-- The statistics' payloads at a lane where the four sums are a column's. -/
theorem stats (v0 v1 v2 v3 : FVec Ideal S1x256 .f32) (l : Fin 256) (x : Fin 8192 → ℝ)
    (h0 : v0 (ix2 0 l) = ((∑ t, x t : ℝ) : EReal)) (h1 : v1 (ix2 0 l) = ((∑ t, x t ^ 2 : ℝ) : EReal))
    (h2 : v2 (ix2 0 l) = ((∑ t, x t ^ 3 : ℝ) : EReal)) (h3 : v3 (ix2 0 l) = ((∑ t, x t ^ 4 : ℝ) : EReal)) :
    k0_pay30 v0 (ix2 0 l) = ((mean x : ℝ) : EReal) ∧ k0_pay32 v0 v1 (ix2 0 l) = ((dev x : ℝ) : EReal)
      ∧ k0_pay33 v0 v1 (ix2 0 l) = ((1 / dev x : ℝ) : EReal) ∧ k0_pay35 v0 v1 v2 (ix2 0 l) = ((skew x : ℝ) : EReal)
      ∧ k0_pay37 (k0_pay36 v0 v1 v2 v3) (ix2 0 l) = ((ekurt x : ℝ) : EReal) := by
  have c1 : (Scalar.ofBits .f32 0x3F800000#32 : Ideal .f32) = ((1 : ℝ) : EReal) := ofBits_1
  have c3 : (Scalar.ofBits .f32 0x40400000#32 : Ideal .f32) = ((3 : ℝ) : EReal) := ofBits_3
  have c4 : (Scalar.ofBits .f32 0x40800000#32 : Ideal .f32) = ((4 : ℝ) : EReal) := ofBits_4
  have c6 : (Scalar.ofBits .f32 0x40C00000#32 : Ideal .f32) = ((6 : ℝ) : EReal) := ofBits_6
  have cn : (Scalar.ofBits .f32 0x46000000#32 : Ideal .f32) = ((8192 : ℝ) : EReal) := ofBits_8192
  have cn1 : (Scalar.ofBits .f32 0x45FFF800#32 : Ideal .f32) = ((8191 : ℝ) : EReal) := ofBits_8191
  have c2n : (Scalar.ofBits .f32 0x46800000#32 : Ideal .f32) = ((16384 : ℝ) : EReal) := ofBits_16384
  have c3n : (Scalar.ofBits .f32 0x46C00000#32 : Ideal .f32) = ((24576 : ℝ) : EReal) := ofBits_24576
  have cs : (Scalar.ofBits .f32 0x38D1B717#32 : Ideal .f32) = ((sigMin : ℝ) : EReal) := ofBits_sigMin
  have e30 : k0_pay30 v0 (ix2 0 l) = ((mean x : ℝ) : EReal) := by
    simp only [k0_pay30, divf_apply, broadcast_apply, cn, h0]
    exact div_coe _ _ (by norm_num)
  have e31 : k0_pay31 v0 (ix2 0 l) = ((mean x * mean x : ℝ) : EReal) := by
    simp only [k0_pay31, mulf_apply, e30, EReal.coe_mul]
  have e32 : k0_pay32 v0 v1 (ix2 0 l) = ((dev x : ℝ) : EReal) := by
    obtain ⟨hd, hn⟩ := dev_of_sums x
    simp only [k0_pay32, maximumf_apply, subf_apply, mulf_apply, divf_apply, broadcast_apply, sqrt_at, cn, cn1, cs, h1, e31]
    simp only [← EReal.coe_mul, ← EReal.coe_sub]
    rw [div_coe _ _ (by norm_num), sqrt_coe _ hn, max_coe, hd]
  have e33 : k0_pay33 v0 v1 (ix2 0 l) = ((1 / dev x : ℝ) : EReal) := by
    simp only [k0_pay33, divf_apply, broadcast_apply, c1, e32]
    exact div_coe _ _ (dev_pos x).ne'
  have e34 : k0_pay34 v0 v1 (ix2 0 l) = ((1 / dev x * (1 / dev x) : ℝ) : EReal) := by
    simp only [k0_pay34, mulf_apply, e33, EReal.coe_mul]
  refine ⟨e30, e32, e33, ?_, ?_⟩
  · simp only [k0_pay35, addf_apply, subf_apply, mulf_apply, divf_apply, broadcast_apply, c3, c2n, cn, h1, h2, e30, e31, e33, e34]
    simp only [← EReal.coe_mul, ← EReal.coe_sub, ← EReal.coe_add]
    rw [div_coe _ _ (by norm_num), skew_of_sums]
  · simp only [k0_pay37, k0_pay36, addf_apply, subf_apply, mulf_apply, divf_apply, broadcast_apply, c3, c4, c6, c3n, cn, h1, h2, h3, e30, e31, e34]
    simp only [← EReal.coe_mul, ← EReal.coe_sub, ← EReal.coe_add]
    rw [div_coe _ _ (by norm_num), ← EReal.coe_sub, ekurt_of_sums]

variable (c : Dev nD) (i : grid0.Coords) (arg1 : Memref sig .tc .smem S2x32 .f32) (harg1 : arg1.IsWhole)
  (arg2 : Memref sig .tc .smem S32 .f32) (harg2 : arg2.IsWhole) (arg3 : Memref sig .tc .smem S32x25 .f32) (harg3 : arg3.IsWhole)
  (arg4 : Memref sig .tc .smem S25 .f32) (harg4 : arg4.IsWhole) (arg5 : Memref sig .tc .vmem S1x8192x256 .f32) (harg5 : arg5.IsWhole)
  (arg6 : Memref sig .tc .vmem S1x8192x256 .f32) (harg6 : arg6.IsWhole) (X : Vec Ideal S1x8192x256 .f32)

/-- The kernel's statistics at a lane whose values are the real numbers `x`. -/
theorem stat_words (l : Fin 256) (x : Fin 8192 → ℝ) (hx : ∀ t, X (ix3 0 t l) = ((x t : ℝ) : EReal)) :
    kernelRun0_A.sl.r c i arg1 harg1 arg2 harg2 arg3 harg3 arg4 harg4 arg5 harg5 arg6 harg6 X (ix2 0 l) = ((mean x : ℝ) : EReal)
      ∧ kernelRun0_A.sl.r_1 c i arg1 harg1 arg2 harg2 arg3 harg3 arg4 harg4 arg5 harg5 arg6 harg6 X (ix2 0 l) = ((dev x : ℝ) : EReal)
      ∧ kernelRun0_A.sl.r_2 c i arg1 harg1 arg2 harg2 arg3 harg3 arg4 harg4 arg5 harg5 arg6 harg6 X (ix2 0 l) = ((1 / dev x : ℝ) : EReal)
      ∧ kernelRun0_A.sl.r_3 c i arg1 harg1 arg2 harg2 arg3 harg3 arg4 harg4 arg5 harg5 arg6 harg6 X (ix2 0 l) = ((skew x : ℝ) : EReal)
      ∧ k0_pay37 (kernelRun0_A.sl.r_4 c i arg1 harg1 arg2 harg2 arg3 harg3 arg4 harg4 arg5 harg5 arg6 harg6 X) (ix2 0 l) = ((ekurt x : ℝ) : EReal) := by
  have m := moments c i arg1 harg1 arg2 harg2 arg3 harg3 arg4 harg4 arg5 harg5 arg6 harg6 X l x hx 16 le_rfl
  dsimp only at m
  simp only [upto_all] at m
  exact stats _ _ _ _ l x m.1 m.2.1 m.2.2.1 m.2.2.2

end Cert.KernelValue

end
-- ==== Proof.KernelRaw.lean ====
/- The kernel's network at a lane: each of the twenty-five rows it adds up is the network's output at the column's
   skewness and excess kurtosis. -/
module

public import proofs.«01_k».proof.Proof.KernelStats

@[expose] public section

noncomputable section

namespace Cert.KernelValue

open Cert.KernelIdeal Cert.KernelIdeal.Gen Idealize.ShloMosaic Idealize.ShloMosaic.TcCoe Idealize.ShloMosaic.ValueIdx
open Idealize.ShloMosaic.Tactic Cert.Flow Cert.Lift

/-- The four weight arrays hold the network's real numbers. -/
structure IsNet (N : Net) (x0 : Vec Ideal S2x32 .f32) (x1 : Vec Ideal S32 .f32) (x2 : Vec Ideal S32x25 .f32)
    (x3 : Vec Ideal S25 .f32) : Prop where
  W1_eq : ∀ a b, x0 (ix2 a b) = ((N.W1 a b : ℝ) : EReal)
  b1_eq : ∀ a, x1 (ix1 a) = ((N.b1 a : ℝ) : EReal)
  W2_eq : ∀ a b, x2 (ix2 a b) = ((N.W2 a b : ℝ) : EReal)
  b2_eq : ∀ a, x3 (ix1 a) = ((N.b2 a : ℝ) : EReal)

/-! A load from a weight array is the network's number at the place the load names. -/

/-- A one-element rectangle starts inside its array. -/
theorem lt_of_one {s : Shape} {off size : Fin s.rank → ℕ} (inb) (h : 0 < (Rect.unit (s := s) off size inb).shape.numel) (d : Fin s.rank) :
    off d < s.size d := by
  have h1 : 0 < size d := (Shape.Idx.first h d).pos
  have := inb d
  omega

/-- The only index of a one-element rectangle is where it starts. -/
theorem first_idx {s : Shape} (off size : Fin s.rank → ℕ) (inb) (h : 0 < (Rect.unit (s := s) off size inb).shape.numel) (d : Fin s.rank) :
    (Rect.unit (s := s) off size inb).idx (Shape.Idx.first h) d = ⟨off d, lt_of_one inb h d⟩ :=
  Fin.ext (Rect.idx_unit_val off size inb _ d)

/-- A one-element load from the first weights. -/
theorem leaf0 {N : Net} {x0 x1 x2 x3} (hN : IsNet N x0 x1 x2 x3) (off size inb)
    (h : 0 < (Rect.unit (s := S2x32) off size inb).shape.numel) :
    View.ld (Val := Elt Ideal) (e' := .f32) x0 (Rect.unit off size inb) (Shape.Idx.first h) = ((N.W1 ⟨off 0, lt_of_one inb h 0⟩ ⟨off 1, lt_of_one inb h 1⟩ : ℝ) : EReal) := by
  refine ((congrArg x0 (eq_ix2 ((Rect.unit (s := S2x32) off size inb).idx (Shape.Idx.first h)))).trans (hN.W1_eq _ _)).trans ?_
  rw [first_idx off size inb h 0, first_idx off size inb h 1]
  rfl

/-- A one-element load from the first offsets. -/
theorem leaf1 {N : Net} {x0 x1 x2 x3} (hN : IsNet N x0 x1 x2 x3) (off size inb)
    (h : 0 < (Rect.unit (s := S32) off size inb).shape.numel) :
    View.ld (Val := Elt Ideal) (e' := .f32) x1 (Rect.unit off size inb) (Shape.Idx.first h) = ((N.b1 ⟨off 0, lt_of_one inb h 0⟩ : ℝ) : EReal) := by
  refine ((congrArg x1 (eq_ix1 ((Rect.unit (s := S32) off size inb).idx (Shape.Idx.first h)))).trans (hN.b1_eq _)).trans ?_
  rw [first_idx off size inb h 0]
  rfl

/-- A one-element load from the second weights. -/
theorem leaf2 {N : Net} {x0 x1 x2 x3} (hN : IsNet N x0 x1 x2 x3) (off size inb)
    (h : 0 < (Rect.unit (s := S32x25) off size inb).shape.numel) :
    View.ld (Val := Elt Ideal) (e' := .f32) x2 (Rect.unit off size inb) (Shape.Idx.first h) = ((N.W2 ⟨off 0, lt_of_one inb h 0⟩ ⟨off 1, lt_of_one inb h 1⟩ : ℝ) : EReal) := by
  refine ((congrArg x2 (eq_ix2 ((Rect.unit (s := S32x25) off size inb).idx (Shape.Idx.first h)))).trans (hN.W2_eq _ _)).trans ?_
  rw [first_idx off size inb h 0, first_idx off size inb h 1]
  rfl

/-- A one-element load from the second offsets. -/
theorem leaf3 {N : Net} {x0 x1 x2 x3} (hN : IsNet N x0 x1 x2 x3) (off size inb)
    (h : 0 < (Rect.unit (s := S25) off size inb).shape.numel) :
    View.ld (Val := Elt Ideal) (e' := .f32) x3 (Rect.unit off size inb) (Shape.Idx.first h) = ((N.b2 ⟨off 0, lt_of_one inb h 0⟩ : ℝ) : EReal) := by
  refine ((congrArg x3 (eq_ix1 ((Rect.unit (s := S25) off size inb).idx (Shape.Idx.first h)))).trans (hN.b2_eq _)).trans ?_
  rw [first_idx off size inb h 0]
  rfl

/-- The zero the kernel holds. -/
theorem zero_eq : (Scalar.ofBits .f32 0x00000000#32 : Ideal .f32) = ((0 : ℝ) : EReal) := ofBits_0

/-- The row of zeros the kernel starts its sums from. -/
theorem zero_row (l : Fin 256) : (k0_pay23 (F := Ideal)) (ix2 0 l) = ((0 : ℝ) : EReal) := ofBits_0

/-- A sum over the hidden units as the kernel adds it up, the offset first. -/
theorem dot32 (f : Fin 32 → ℝ) (b : ℝ) :
    (∑ h, f h) + b = 0 + b + f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29 + f 30 + f 31 := by
  simp only [Fin.sum_univ_succ, Fin.sum_univ_zero, Fin.succ_zero_eq_one, Fin.reduceSucc]
  ring

variable (c : Dev nD) (i : grid0.Coords) (arg1 : Memref sig .tc .smem S2x32 .f32) (harg1 : arg1.IsWhole)
  (arg2 : Memref sig .tc .smem S32 .f32) (harg2 : arg2.IsWhole) (arg3 : Memref sig .tc .smem S32x25 .f32) (harg3 : arg3.IsWhole)
  (arg4 : Memref sig .tc .smem S25 .f32) (harg4 : arg4.IsWhole) (arg5 : Memref sig .tc .vmem S1x8192x256 .f32) (harg5 : arg5.IsWhole)
  (arg6 : Memref sig .tc .vmem S1x8192x256 .f32) (harg6 : arg6.IsWhole) (x0 : Vec Ideal S2x32 .f32) (x1 : Vec Ideal S32 .f32)
  (x2 : Vec Ideal S32x25 .f32) (x3 : Vec Ideal S25 .f32) (X : Vec Ideal S1x8192x256 .f32)

set_option maxHeartbeats 4000000 in
/-- The first eight rows, which become the widths. -/
theorem raw_widths (N : Net) (hN : IsNet N x0 x1 x2 x3) (l : Fin 256) (x : Fin 8192 → ℝ)
    (hx : ∀ t, X (ix3 0 t l) = ((x t : ℝ) : EReal)) :
    kernelRun0_A.sl.r_177 c i arg1 harg1 arg2 harg2 arg3 harg3 arg4 harg4 arg5 harg5 arg6 harg6 x0 x1 x2 x3 X (ix2 0 l) = ((raw N (skew x) (ekurt x) 0 : ℝ) : EReal)
      ∧ kernelRun0_A.sl.r_224 c i arg1 harg1 arg2 harg2 arg3 harg3 arg4 harg4 arg5 harg5 arg6 harg6 x0 x1 x2 x3 X (ix2 0 l) = ((raw N (skew x) (ekurt x) 1 : ℝ) : EReal)
      ∧ kernelRun0_A.sl.r_258 c i arg1 harg1 arg2 harg2 arg3 harg3 arg4 harg4 arg5 harg5 arg6 harg6 x0 x1 x2 x3 X (ix2 0 l) = ((raw N (skew x) (ekurt x) 2 : ℝ) : EReal)
      ∧ kernelRun0_A.sl.r_293 c i arg1 harg1 arg2 harg2 arg3 harg3 arg4 harg4 arg5 harg5 arg6 harg6 x0 x1 x2 x3 X (ix2 0 l) = ((raw N (skew x) (ekurt x) 3 : ℝ) : EReal)
      ∧ kernelRun0_A.sl.r_342 c i arg1 harg1 arg2 harg2 arg3 harg3 arg4 harg4 arg5 harg5 arg6 harg6 x0 x1 x2 x3 X (ix2 0 l) = ((raw N (skew x) (ekurt x) 4 : ℝ) : EReal)
      ∧ kernelRun0_A.sl.r_376 c i arg1 harg1 arg2 harg2 arg3 harg3 arg4 harg4 arg5 harg5 arg6 harg6 x0 x1 x2 x3 X (ix2 0 l) = ((raw N (skew x) (ekurt x) 5 : ℝ) : EReal)
      ∧ kernelRun0_A.sl.r_411 c i arg1 harg1 arg2 harg2 arg3 harg3 arg4 harg4 arg5 harg5 arg6 harg6 x0 x1 x2 x3 X (ix2 0 l) = ((raw N (skew x) (ekurt x) 6 : ℝ) : EReal)
      ∧ kernelRun0_A.sl.r_448 c i arg1 harg1 arg2 harg2 arg3 harg3 arg4 harg4 arg5 harg5 arg6 harg6 x0 x1 x2 x3 X (ix2 0 l) = ((raw N (skew x) (ekurt x) 7 : ℝ) : EReal) := by
  obtain ⟨-, -, -, hs, hk⟩ := stat_words c i arg1 harg1 arg2 harg2 arg3 harg3 arg4 harg4 arg5 harg5 arg6 harg6 X l x hx
  revert hs hk
  sl_unfold_words
  intro hs hk
  refine ⟨?_, ?_, ?_, ?_, ?_, ?_, ?_, ?_⟩ <;>
    (simp only [k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206]
     simp only [View.readAt_eq_ld, Memref.IsWhole.read_unread, mulf_apply, addf_apply, broadcast_apply, maximumf_apply,
       leaf0 hN, leaf1 hN, leaf2 hN, leaf3 hN, Matrix.cons_val_zero, Matrix.cons_val_one, zero_eq, zero_row, hs, hk, ← EReal.coe_mul, ← EReal.coe_add, max_coe]
     exact congrArg _ (dot32 (fun h => hid N (skew x) (ekurt x) h * N.W2 h _) _).symm)

set_option maxHeartbeats 4000000 in
/-- The next eight rows, which become the heights. -/
theorem raw_heights (N : Net) (hN : IsNet N x0 x1 x2 x3) (l : Fin 256) (x : Fin 8192 → ℝ)
    (hx : ∀ t, X (ix3 0 t l) = ((x t : ℝ) : EReal)) :
    kernelRun0_A.sl.r_493 c i arg1 harg1 arg2 harg2 arg3 harg3 arg4 harg4 arg5 harg5 arg6 harg6 x0 x1 x2 x3 X (ix2 0 l) = ((raw N (skew x) (ekurt x) 8 : ℝ) : EReal)
      ∧ kernelRun0_A.sl.r_528 c i arg1 harg1 arg2 harg2 arg3 harg3 arg4 harg4 arg5 harg5 arg6 harg6 x0 x1 x2 x3 X (ix2 0 l) = ((raw N (skew x) (ekurt x) 9 : ℝ) : EReal)
      ∧ kernelRun0_A.sl.r_565 c i arg1 harg1 arg2 harg2 arg3 harg3 arg4 harg4 arg5 harg5 arg6 harg6 x0 x1 x2 x3 X (ix2 0 l) = ((raw N (skew x) (ekurt x) 10 : ℝ) : EReal)
      ∧ kernelRun0_A.sl.r_599 c i arg1 harg1 arg2 harg2 arg3 harg3 arg4 harg4 arg5 harg5 arg6 harg6 x0 x1 x2 x3 X (ix2 0 l) = ((raw N (skew x) (ekurt x) 11 : ℝ) : EReal)
      ∧ kernelRun0_A.sl.r_645 c i arg1 harg1 arg2 harg2 arg3 harg3 arg4 harg4 arg5 harg5 arg6 harg6 x0 x1 x2 x3 X (ix2 0 l) = ((raw N (skew x) (ekurt x) 12 : ℝ) : EReal)
      ∧ kernelRun0_A.sl.r_682 c i arg1 harg1 arg2 harg2 arg3 harg3 arg4 harg4 arg5 harg5 arg6 harg6 x0 x1 x2 x3 X (ix2 0 l) = ((raw N (skew x) (ekurt x) 13 : ℝ) : EReal)
      ∧ kernelRun0_A.sl.r_716 c i arg1 harg1 arg2 harg2 arg3 harg3 arg4 harg4 arg5 harg5 arg6 harg6 x0 x1 x2 x3 X (ix2 0 l) = ((raw N (skew x) (ekurt x) 14 : ℝ) : EReal)
      ∧ kernelRun0_A.sl.r_751 c i arg1 harg1 arg2 harg2 arg3 harg3 arg4 harg4 arg5 harg5 arg6 harg6 x0 x1 x2 x3 X (ix2 0 l) = ((raw N (skew x) (ekurt x) 15 : ℝ) : EReal) := by
  obtain ⟨-, -, -, hs, hk⟩ := stat_words c i arg1 harg1 arg2 harg2 arg3 harg3 arg4 harg4 arg5 harg5 arg6 harg6 X l x hx
  revert hs hk
  sl_unfold_words
  intro hs hk
  refine ⟨?_, ?_, ?_, ?_, ?_, ?_, ?_, ?_⟩ <;>
    (simp only [k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206]
     simp only [View.readAt_eq_ld, Memref.IsWhole.read_unread, mulf_apply, addf_apply, broadcast_apply, maximumf_apply,
       leaf0 hN, leaf1 hN, leaf2 hN, leaf3 hN, Matrix.cons_val_zero, Matrix.cons_val_one, zero_eq, zero_row, hs, hk, ← EReal.coe_mul, ← EReal.coe_add, max_coe]
     exact congrArg _ (dot32 (fun h => hid N (skew x) (ekurt x) h * N.W2 h _) _).symm)

set_option maxHeartbeats 4000000 in
/-- The last nine rows, which become the slopes. -/
theorem raw_slopes (N : Net) (hN : IsNet N x0 x1 x2 x3) (l : Fin 256) (x : Fin 8192 → ℝ)
    (hx : ∀ t, X (ix3 0 t l) = ((x t : ℝ) : EReal)) :
    kernelRun0_A.sl.r_798 c i arg1 harg1 arg2 harg2 arg3 harg3 arg4 harg4 arg5 harg5 arg6 harg6 x0 x1 x2 x3 X (ix2 0 l) = ((raw N (skew x) (ekurt x) 16 : ℝ) : EReal)
      ∧ kernelRun0_A.sl.r_832 c i arg1 harg1 arg2 harg2 arg3 harg3 arg4 harg4 arg5 harg5 arg6 harg6 x0 x1 x2 x3 X (ix2 0 l) = ((raw N (skew x) (ekurt x) 17 : ℝ) : EReal)
      ∧ kernelRun0_A.sl.r_867 c i arg1 harg1 arg2 harg2 arg3 harg3 arg4 harg4 arg5 harg5 arg6 harg6 x0 x1 x2 x3 X (ix2 0 l) = ((raw N (skew x) (ekurt x) 18 : ℝ) : EReal)
      ∧ kernelRun0_A.sl.r_916 c i arg1 harg1 arg2 harg2 arg3 harg3 arg4 harg4 arg5 harg5 arg6 harg6 x0 x1 x2 x3 X (ix2 0 l) = ((raw N (skew x) (ekurt x) 19 : ℝ) : EReal)
      ∧ kernelRun0_A.sl.r_950 c i arg1 harg1 arg2 harg2 arg3 harg3 arg4 harg4 arg5 harg5 arg6 harg6 x0 x1 x2 x3 X (ix2 0 l) = ((raw N (skew x) (ekurt x) 20 : ℝ) : EReal)
      ∧ kernelRun0_A.sl.r_985 c i arg1 harg1 arg2 harg2 arg3 harg3 arg4 harg4 arg5 harg5 arg6 harg6 x0 x1 x2 x3 X (ix2 0 l) = ((raw N (skew x) (ekurt x) 21 : ℝ) : EReal)
      ∧ kernelRun0_A.sl.r_1022 c i arg1 harg1 arg2 harg2 arg3 harg3 arg4 harg4 arg5 harg5 arg6 harg6 x0 x1 x2 x3 X (ix2 0 l) = ((raw N (skew x) (ekurt x) 22 : ℝ) : EReal)
      ∧ kernelRun0_A.sl.r_1067 c i arg1 harg1 arg2 harg2 arg3 harg3 arg4 harg4 arg5 harg5 arg6 harg6 x0 x1 x2 x3 X (ix2 0 l) = ((raw N (skew x) (ekurt x) 23 : ℝ) : EReal)
      ∧ kernelRun0_A.sl.r_1095 c i arg1 harg1 arg2 harg2 arg3 harg3 arg4 harg4 arg5 harg5 arg6 harg6 x0 x1 x2 x3 X (ix2 0 l) = ((raw N (skew x) (ekurt x) 24 : ℝ) : EReal) := by
  obtain ⟨-, -, -, hs, hk⟩ := stat_words c i arg1 harg1 arg2 harg2 arg3 harg3 arg4 harg4 arg5 harg5 arg6 harg6 X l x hx
  revert hs hk
  sl_unfold_words
  intro hs hk
  refine ⟨?_, ?_, ?_, ?_, ?_, ?_, ?_, ?_, ?_⟩ <;>
    (simp only [k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206]
     simp only [View.readAt_eq_ld, Memref.IsWhole.read_unread, mulf_apply, addf_apply, broadcast_apply, maximumf_apply,
       leaf0 hN, leaf1 hN, leaf2 hN, leaf3 hN, Matrix.cons_val_zero, Matrix.cons_val_one, zero_eq, zero_row, hs, hk, ← EReal.coe_mul, ← EReal.coe_add, max_coe]
     exact congrArg _ (dot32 (fun h => hid N (skew x) (ekurt x) h * N.W2 h _) _).symm)

end Cert.KernelValue

end
-- ==== Proof.KernelPar.lean ====
/- The kernel's spline at a lane: the widths, heights and slopes it makes of its network's outputs, and the knots. -/
module

public import proofs.«01_k».proof.Proof.KernelRaw

/-! # What the kernel reads off the network: the spline's parameters

Each of the kernel's rows of widths, heights and slopes holds, in lane `l`, the parameter the mathematics names. -/

@[expose] public section

noncomputable section

namespace Cert.KernelValue

open Cert.KernelIdeal Cert.KernelIdeal.Gen Idealize.ShloMosaic Idealize.ShloMosaic.TcCoe Idealize.ShloMosaic.ValueIdx
open Idealize.ShloMosaic.Tactic Cert.Flow Cert.Lift

/-- The ten the kernel holds. -/
theorem ten_eq : (Scalar.ofBits .f32 0x41200000#32 : Ideal .f32) = ((10 : ℝ) : EReal) := ofBits_10

/-- The one the kernel holds. -/
theorem one_eq : (Scalar.ofBits .f32 0x3F800000#32 : Ideal .f32) = ((1 : ℝ) : EReal) := ofBits_1

/-- The least slope the kernel holds. -/
theorem minDeriv_eq : (Scalar.ofBits .f32 0x3A83126F#32 : Ideal .f32) = ((minDeriv : ℝ) : EReal) := ofBits_minDeriv

/-- A share as the kernel computes it: the exponents lowered by `M`, and ten over their sum taken first. -/
theorem share_scaled (r : Fin 8 → ℝ) (M : ℝ) (j : Fin 8) :
    Real.exp (r j - M) * (10 / (Real.exp (r 0 - M) + Real.exp (r 1 - M) + Real.exp (r 2 - M) + Real.exp (r 3 - M)
      + Real.exp (r 4 - M) + Real.exp (r 5 - M) + Real.exp (r 6 - M) + Real.exp (r 7 - M))) = share r j := by
  rw [← share_shift r M j, Fin.sum_univ_eight]
  ring

/-- The kernel's eight rows of widths, from eight raw rows. -/
theorem widths_of (v0 v1 v2 v3 v4 v5 v6 v7 : FVec Ideal S1x256 .f32) (r : Fin 8 → ℝ) (i : S1x256.Idx)
    (h0 : v0 i = ((r 0 : ℝ) : EReal)) (h1 : v1 i = ((r 1 : ℝ) : EReal)) (h2 : v2 i = ((r 2 : ℝ) : EReal)) (h3 : v3 i = ((r 3 : ℝ) : EReal)) (h4 : v4 i = ((r 4 : ℝ) : EReal)) (h5 : v5 i = ((r 5 : ℝ) : EReal)) (h6 : v6 i = ((r 6 : ℝ) : EReal)) (h7 : v7 i = ((r 7 : ℝ) : EReal)) :
    k0_pay217 v0 v1 v2 v3 v4 v5 v6 v7 i = ((share r 0 : ℝ) : EReal)
      ∧ k0_pay218 v0 v1 v2 v3 v4 v5 v6 v7 i = ((share r 1 : ℝ) : EReal)
      ∧ k0_pay219 v0 v1 v2 v3 v4 v5 v6 v7 i = ((share r 2 : ℝ) : EReal)
      ∧ k0_pay220 v0 v1 v2 v3 v4 v5 v6 v7 i = ((share r 3 : ℝ) : EReal)
      ∧ k0_pay221 v0 v1 v2 v3 v4 v5 v6 v7 i = ((share r 4 : ℝ) : EReal)
      ∧ k0_pay222 (k0_pay213 v0 v1 v2 v3 v4 v5 v6 v7) (k0_pay216 v0 v1 v2 v3 v4 v5 v6 v7) i = ((share r 5 : ℝ) : EReal)
      ∧ k0_pay223 (k0_pay214 v0 v1 v2 v3 v4 v5 v6 v7) (k0_pay216 v0 v1 v2 v3 v4 v5 v6 v7) i = ((share r 6 : ℝ) : EReal)
      ∧ k0_pay224 (k0_pay215 v0 v1 v2 v3 v4 v5 v6 v7) (k0_pay216 v0 v1 v2 v3 v4 v5 v6 v7) i = ((share r 7 : ℝ) : EReal) := by
  simp only [k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224,
    mulf_apply, addf_apply, subf_apply, divf_apply, maximumf_apply, broadcast_apply, exp_at, h0, h1, h2, h3, h4, h5, h6, h7,
    max_coe, ← EReal.coe_sub, exp_coe, ← EReal.coe_add, ten_eq]
  generalize max (max (max (max (max (max (max (r 0) (r 1)) (r 2)) (r 3)) (r 4)) (r 5)) (r 6)) (r 7) = M
  have hs : Real.exp (r 0 - M) + Real.exp (r 1 - M) + Real.exp (r 2 - M) + Real.exp (r 3 - M) + Real.exp (r 4 - M)
      + Real.exp (r 5 - M) + Real.exp (r 6 - M) + Real.exp (r 7 - M) ≠ 0 := by positivity
  simp only [div_coe _ _ hs, ← EReal.coe_mul]
  refine ⟨?_, ?_, ?_, ?_, ?_, ?_, ?_, ?_⟩ <;> exact congrArg _ (share_scaled r M _)

/-- The kernel's eight rows of heights, from eight raw rows. -/
theorem heights_of (v0 v1 v2 v3 v4 v5 v6 v7 : FVec Ideal S1x256 .f32) (r : Fin 8 → ℝ) (i : S1x256.Idx)
    (h0 : v0 i = ((r 0 : ℝ) : EReal)) (h1 : v1 i = ((r 1 : ℝ) : EReal)) (h2 : v2 i = ((r 2 : ℝ) : EReal)) (h3 : v3 i = ((r 3 : ℝ) : EReal)) (h4 : v4 i = ((r 4 : ℝ) : EReal)) (h5 : v5 i = ((r 5 : ℝ) : EReal)) (h6 : v6 i = ((r 6 : ℝ) : EReal)) (h7 : v7 i = ((r 7 : ℝ) : EReal)) :
    k0_pay235 v0 v1 v2 v3 v4 v5 v6 v7 i = ((share r 0 : ℝ) : EReal)
      ∧ k0_pay236 v0 v1 v2 v3 v4 v5 v6 v7 i = ((share r 1 : ℝ) : EReal)
      ∧ k0_pay237 v0 v1 v2 v3 v4 v5 v6 v7 i = ((share r 2 : ℝ) : EReal)
      ∧ k0_pay238 v0 v1 v2 v3 v4 v5 v6 v7 i = ((share r 3 : ℝ) : EReal)
      ∧ k0_pay239 v0 v1 v2 v3 v4 v5 v6 v7 i = ((share r 4 : ℝ) : EReal)
      ∧ k0_pay240 v0 v1 v2 v3 v4 v5 v6 v7 i = ((share r 5 : ℝ) : EReal)
      ∧ k0_pay241 v0 v1 v2 v3 v4 v5 v6 v7 i = ((share r 6 : ℝ) : EReal)
      ∧ k0_pay242 v0 v1 v2 v3 v4 v5 v6 v7 i = ((share r 7 : ℝ) : EReal) := by
  simp only [k0_pay225, k0_pay226, k0_pay227, k0_pay228, k0_pay229, k0_pay230, k0_pay231, k0_pay232, k0_pay233, k0_pay234, k0_pay235,
    k0_pay236, k0_pay237, k0_pay238, k0_pay239, k0_pay240, k0_pay241, k0_pay242,
    mulf_apply, addf_apply, subf_apply, divf_apply, maximumf_apply, broadcast_apply, exp_at, h0, h1, h2, h3, h4, h5, h6, h7,
    max_coe, ← EReal.coe_sub, exp_coe, ← EReal.coe_add, ten_eq]
  generalize max (max (max (max (max (max (max (r 0) (r 1)) (r 2)) (r 3)) (r 4)) (r 5)) (r 6)) (r 7) = M
  have hs : Real.exp (r 0 - M) + Real.exp (r 1 - M) + Real.exp (r 2 - M) + Real.exp (r 3 - M) + Real.exp (r 4 - M)
      + Real.exp (r 5 - M) + Real.exp (r 6 - M) + Real.exp (r 7 - M) ≠ 0 := by positivity
  simp only [div_coe _ _ hs, ← EReal.coe_mul]
  refine ⟨?_, ?_, ?_, ?_, ?_, ?_, ?_, ?_⟩ <;> exact congrArg _ (share_scaled r M _)

/-- A slope as the kernel computes it. -/
theorem slope_of (r : ℝ) :
    max ((r : ℝ) : EReal) ((0 : ℝ) : EReal) + Ideal.log (((1 : ℝ) : EReal) + Ideal.exp (((0 : ℝ) : EReal) - max ((r : ℝ) : EReal) (-((r : ℝ) : EReal))))
      + ((minDeriv : ℝ) : EReal) = ((Flow.slope r : ℝ) : EReal) := by
  have h : 0 < 1 + Real.exp (0 - |r|) := by positivity
  rw [abs_coe, ← EReal.coe_sub, exp_coe, ← EReal.coe_add, log_coe _ h, max_coe, ← EReal.coe_add, ← EReal.coe_add]
  simp only [Flow.slope, zero_sub]

/-- The kernel's nine rows of slopes, each from its raw row. -/
theorem slopes_of (v : FVec Ideal S1x256 .f32) (r : ℝ) (i : S1x256.Idx) (h : v i = ((r : ℝ) : EReal)) :
    k0_pay243 v i = ((Flow.slope r : ℝ) : EReal)
      ∧ k0_pay244 v i = ((Flow.slope r : ℝ) : EReal)
      ∧ k0_pay245 v i = ((Flow.slope r : ℝ) : EReal)
      ∧ k0_pay246 v i = ((Flow.slope r : ℝ) : EReal)
      ∧ k0_pay249 (k0_pay247 v) (k0_pay248 v) i = ((Flow.slope r : ℝ) : EReal)
      ∧ k0_pay250 v i = ((Flow.slope r : ℝ) : EReal)
      ∧ k0_pay251 v i = ((Flow.slope r : ℝ) : EReal)
      ∧ k0_pay252 v i = ((Flow.slope r : ℝ) : EReal)
      ∧ k0_pay255 (k0_pay253 v) (k0_pay254 v) i = ((Flow.slope r : ℝ) : EReal) := by
  simp only [k0_pay243, k0_pay244, k0_pay245, k0_pay246, k0_pay247, k0_pay248, k0_pay249, k0_pay250, k0_pay251, k0_pay252, k0_pay253,
    k0_pay254, k0_pay255,
    addf_apply, subf_apply, maximumf_apply, broadcast_apply, exp_at, log_at, abs_at, h, zero_eq, one_eq, minDeriv_eq, slope_of]
  exact ⟨trivial, trivial, trivial, trivial, trivial, trivial, trivial, trivial, trivial⟩

variable (c : Dev nD) (i : grid0.Coords) (arg1 : Memref sig .tc .smem S2x32 .f32) (harg1 : arg1.IsWhole)
  (arg2 : Memref sig .tc .smem S32 .f32) (harg2 : arg2.IsWhole) (arg3 : Memref sig .tc .smem S32x25 .f32) (harg3 : arg3.IsWhole)
  (arg4 : Memref sig .tc .smem S25 .f32) (harg4 : arg4.IsWhole) (arg5 : Memref sig .tc .vmem S1x8192x256 .f32) (harg5 : arg5.IsWhole)
  (arg6 : Memref sig .tc .vmem S1x8192x256 .f32) (harg6 : arg6.IsWhole) (x0 : Vec Ideal S2x32 .f32) (x1 : Vec Ideal S32 .f32)
  (x2 : Vec Ideal S32x25 .f32) (x3 : Vec Ideal S25 .f32) (X : Vec Ideal S1x8192x256 .f32)

/-- The widths. -/
theorem width_words (N : Net) (hN : IsNet N x0 x1 x2 x3) (l : Fin 256) (x : Fin 8192 → ℝ)
    (hx : ∀ t, X (ix3 0 t l) = ((x t : ℝ) : EReal)) :
    kernelRun0_A.sl.r_1100 c i arg1 harg1 arg2 harg2 arg3 harg3 arg4 harg4 arg5 harg5 arg6 harg6 x0 x1 x2 x3 X (ix2 0 l) = ((((par N (skew x) (ekurt x)).w 0 : ℝ)) : EReal)
      ∧ kernelRun0_A.sl.r_1101 c i arg1 harg1 arg2 harg2 arg3 harg3 arg4 harg4 arg5 harg5 arg6 harg6 x0 x1 x2 x3 X (ix2 0 l) = ((((par N (skew x) (ekurt x)).w 1 : ℝ)) : EReal)
      ∧ kernelRun0_A.sl.r_1102 c i arg1 harg1 arg2 harg2 arg3 harg3 arg4 harg4 arg5 harg5 arg6 harg6 x0 x1 x2 x3 X (ix2 0 l) = ((((par N (skew x) (ekurt x)).w 2 : ℝ)) : EReal)
      ∧ kernelRun0_A.sl.r_1103 c i arg1 harg1 arg2 harg2 arg3 harg3 arg4 harg4 arg5 harg5 arg6 harg6 x0 x1 x2 x3 X (ix2 0 l) = ((((par N (skew x) (ekurt x)).w 3 : ℝ)) : EReal)
      ∧ kernelRun0_A.sl.r_1104 c i arg1 harg1 arg2 harg2 arg3 harg3 arg4 harg4 arg5 harg5 arg6 harg6 x0 x1 x2 x3 X (ix2 0 l) = ((((par N (skew x) (ekurt x)).w 4 : ℝ)) : EReal)
      ∧ kernelRun0_A.sl.r_1105 c i arg1 harg1 arg2 harg2 arg3 harg3 arg4 harg4 arg5 harg5 arg6 harg6 x0 x1 x2 x3 X (ix2 0 l) = ((((par N (skew x) (ekurt x)).w 5 : ℝ)) : EReal)
      ∧ kernelRun0_A.sl.r_1106 c i arg1 harg1 arg2 harg2 arg3 harg3 arg4 harg4 arg5 harg5 arg6 harg6 x0 x1 x2 x3 X (ix2 0 l) = ((((par N (skew x) (ekurt x)).w 6 : ℝ)) : EReal)
      ∧ kernelRun0_A.sl.r_1107 c i arg1 harg1 arg2 harg2 arg3 harg3 arg4 harg4 arg5 harg5 arg6 harg6 x0 x1 x2 x3 X (ix2 0 l) = ((((par N (skew x) (ekurt x)).w 7 : ℝ)) : EReal) := by
  obtain ⟨a0, a1, a2, a3, a4, a5, a6, a7⟩ := raw_widths c i arg1 harg1 arg2 harg2 arg3 harg3 arg4 harg4 arg5 harg5 arg6 harg6 x0 x1 x2 x3 X N hN l x hx
  exact widths_of _ _ _ _ _ _ _ _ (fun k => raw N (skew x) (ekurt x) ⟨k.val, by omega⟩) _ a0 a1 a2 a3 a4 a5 a6 a7

/-- The heights. -/
theorem height_words (N : Net) (hN : IsNet N x0 x1 x2 x3) (l : Fin 256) (x : Fin 8192 → ℝ)
    (hx : ∀ t, X (ix3 0 t l) = ((x t : ℝ) : EReal)) :
    kernelRun0_A.sl.r_1108 c i arg1 harg1 arg2 harg2 arg3 harg3 arg4 harg4 arg5 harg5 arg6 harg6 x0 x1 x2 x3 X (ix2 0 l) = ((((par N (skew x) (ekurt x)).h 0 : ℝ)) : EReal)
      ∧ kernelRun0_A.sl.r_1109 c i arg1 harg1 arg2 harg2 arg3 harg3 arg4 harg4 arg5 harg5 arg6 harg6 x0 x1 x2 x3 X (ix2 0 l) = ((((par N (skew x) (ekurt x)).h 1 : ℝ)) : EReal)
      ∧ kernelRun0_A.sl.r_1110 c i arg1 harg1 arg2 harg2 arg3 harg3 arg4 harg4 arg5 harg5 arg6 harg6 x0 x1 x2 x3 X (ix2 0 l) = ((((par N (skew x) (ekurt x)).h 2 : ℝ)) : EReal)
      ∧ kernelRun0_A.sl.r_1111 c i arg1 harg1 arg2 harg2 arg3 harg3 arg4 harg4 arg5 harg5 arg6 harg6 x0 x1 x2 x3 X (ix2 0 l) = ((((par N (skew x) (ekurt x)).h 3 : ℝ)) : EReal)
      ∧ kernelRun0_A.sl.r_1112 c i arg1 harg1 arg2 harg2 arg3 harg3 arg4 harg4 arg5 harg5 arg6 harg6 x0 x1 x2 x3 X (ix2 0 l) = ((((par N (skew x) (ekurt x)).h 4 : ℝ)) : EReal)
      ∧ kernelRun0_A.sl.r_1113 c i arg1 harg1 arg2 harg2 arg3 harg3 arg4 harg4 arg5 harg5 arg6 harg6 x0 x1 x2 x3 X (ix2 0 l) = ((((par N (skew x) (ekurt x)).h 5 : ℝ)) : EReal)
      ∧ kernelRun0_A.sl.r_1114 c i arg1 harg1 arg2 harg2 arg3 harg3 arg4 harg4 arg5 harg5 arg6 harg6 x0 x1 x2 x3 X (ix2 0 l) = ((((par N (skew x) (ekurt x)).h 6 : ℝ)) : EReal)
      ∧ kernelRun0_A.sl.r_1115 c i arg1 harg1 arg2 harg2 arg3 harg3 arg4 harg4 arg5 harg5 arg6 harg6 x0 x1 x2 x3 X (ix2 0 l) = ((((par N (skew x) (ekurt x)).h 7 : ℝ)) : EReal) := by
  obtain ⟨a0, a1, a2, a3, a4, a5, a6, a7⟩ := raw_heights c i arg1 harg1 arg2 harg2 arg3 harg3 arg4 harg4 arg5 harg5 arg6 harg6 x0 x1 x2 x3 X N hN l x hx
  exact heights_of _ _ _ _ _ _ _ _ (fun k => raw N (skew x) (ekurt x) ⟨8 + k.val, by omega⟩) _ a0 a1 a2 a3 a4 a5 a6 a7

/-- The slopes. -/
theorem slope_words (N : Net) (hN : IsNet N x0 x1 x2 x3) (l : Fin 256) (x : Fin 8192 → ℝ)
    (hx : ∀ t, X (ix3 0 t l) = ((x t : ℝ) : EReal)) :
    kernelRun0_A.sl.r_1116 c i arg1 harg1 arg2 harg2 arg3 harg3 arg4 harg4 arg5 harg5 arg6 harg6 x0 x1 x2 x3 X (ix2 0 l) = ((((par N (skew x) (ekurt x)).d 0 : ℝ)) : EReal)
      ∧ kernelRun0_A.sl.r_1117 c i arg1 harg1 arg2 harg2 arg3 harg3 arg4 harg4 arg5 harg5 arg6 harg6 x0 x1 x2 x3 X (ix2 0 l) = ((((par N (skew x) (ekurt x)).d 1 : ℝ)) : EReal)
      ∧ kernelRun0_A.sl.r_1118 c i arg1 harg1 arg2 harg2 arg3 harg3 arg4 harg4 arg5 harg5 arg6 harg6 x0 x1 x2 x3 X (ix2 0 l) = ((((par N (skew x) (ekurt x)).d 2 : ℝ)) : EReal)
      ∧ kernelRun0_A.sl.r_1119 c i arg1 harg1 arg2 harg2 arg3 harg3 arg4 harg4 arg5 harg5 arg6 harg6 x0 x1 x2 x3 X (ix2 0 l) = ((((par N (skew x) (ekurt x)).d 3 : ℝ)) : EReal)
      ∧ kernelRun0_A.sl.r_1122 c i arg1 harg1 arg2 harg2 arg3 harg3 arg4 harg4 arg5 harg5 arg6 harg6 x0 x1 x2 x3 X (ix2 0 l) = ((((par N (skew x) (ekurt x)).d 4 : ℝ)) : EReal)
      ∧ kernelRun0_A.sl.r_1123 c i arg1 harg1 arg2 harg2 arg3 harg3 arg4 harg4 arg5 harg5 arg6 harg6 x0 x1 x2 x3 X (ix2 0 l) = ((((par N (skew x) (ekurt x)).d 5 : ℝ)) : EReal)
      ∧ kernelRun0_A.sl.r_1124 c i arg1 harg1 arg2 harg2 arg3 harg3 arg4 harg4 arg5 harg5 arg6 harg6 x0 x1 x2 x3 X (ix2 0 l) = ((((par N (skew x) (ekurt x)).d 6 : ℝ)) : EReal)
      ∧ kernelRun0_A.sl.r_1125 c i arg1 harg1 arg2 harg2 arg3 harg3 arg4 harg4 arg5 harg5 arg6 harg6 x0 x1 x2 x3 X (ix2 0 l) = ((((par N (skew x) (ekurt x)).d 7 : ℝ)) : EReal)
      ∧ kernelRun0_A.sl.r_1128 c i arg1 harg1 arg2 harg2 arg3 harg3 arg4 harg4 arg5 harg5 arg6 harg6 x0 x1 x2 x3 X (ix2 0 l) = ((((par N (skew x) (ekurt x)).d 8 : ℝ)) : EReal) := by
  obtain ⟨a0, a1, a2, a3, a4, a5, a6, a7, a8⟩ := raw_slopes c i arg1 harg1 arg2 harg2 arg3 harg3 arg4 harg4 arg5 harg5 arg6 harg6 x0 x1 x2 x3 X N hN l x hx
  exact ⟨(slopes_of _ _ _ a0).1, (slopes_of _ _ _ a1).2.1, (slopes_of _ _ _ a2).2.2.1, (slopes_of _ _ _ a3).2.2.2.1, (slopes_of _ _ _ a4).2.2.2.2.1, (slopes_of _ _ _ a5).2.2.2.2.2.1, (slopes_of _ _ _ a6).2.2.2.2.2.2.1, (slopes_of _ _ _ a7).2.2.2.2.2.2.2.1, (slopes_of _ _ _ a8).2.2.2.2.2.2.2.2⟩

end Cert.KernelValue

end
-- ==== Proof.Table.lean ====
/- The table of the spline's coefficients that the kernel holds for a column, and why looking a value up in it gives the
   flow: the kernel compares the value itself with the knots moved back to its own scale, and adds up the differences of
   the table's neighbouring entries over the knots passed. -/
module

public import proofs.«01_k».proof.Proof.Spec
public import proofs.«01_k».proof.Proof.Lift
public import Idealize.ShloMosaic.PureOps.Ideal
public import Idealize.ShloMosaic.Lib.ValueIdx

@[expose] public section

noncomputable section

namespace Cert.Flow

open Idealize.ShloMosaic Idealize.ShloMosaic.ValueIdx Cert.Lift

variable (p : Par) (m s : ℝ)

/-- A knot on the scale of the column itself. -/
def thr (j : Fin 9) : ℝ := m + s * knot p.w j

/-- One over a piece's width, kept from zero. -/
def inv (k : Fin 8) : ℝ := 1 / max (p.w k) tiny

/-- A piece's rise over its width. -/
def tabS (k : Fin 8) : ℝ := p.h k * inv p k

/-- A piece's place is `tabP x - tabQ`. -/
def tabP (k : Fin 8) : ℝ := inv p k * (1 / s)

/-- A piece's place is `tabP x - tabQ`. -/
def tabQ (k : Fin 8) : ℝ := (m * (1 / s) + knot p.w k.castSucc) * inv p k

/-- The height at a piece's left end. -/
def tabK (k : Fin 8) : ℝ := knot p.h k.castSucc

/-- The numerator's coefficient of the squared place. -/
def tabA (k : Fin 8) : ℝ := p.h k * tabS p k

/-- The numerator's coefficient of the place times its complement. -/
def tabB (k : Fin 8) : ℝ := p.h k * p.d k.castSucc

/-- The denominator's coefficient of the place times its complement. -/
def tabD (k : Fin 8) : ℝ := p.d k.succ + p.d k.castSucc - 2 * tabS p k

/-- The last piece's entry in the table's last coefficient. -/
theorem tabD_last : p.d 8 + p.d 7 - 2 * tabS p 7 = tabD p 7 := rfl

variable {p m s}

/-- A value has passed a knot on the column's scale when its standardized value has passed the knot. -/
theorem thr_le (hs : 0 < s) (x : ℝ) (j : Fin 9) : thr p m s j ≤ x ↔ knot p.w j ≤ (x - m) / s := by
  rw [le_div_iff₀ hs, thr]
  constructor <;> intro h <;> linarith

/-- The kernel's step at a knot. -/
theorem step_thr (hs : 0 < s) (x : ℝ) (j : Fin 9) :
    Scalar.select (Ideal.cmp .oge ((x : ℝ) : EReal) ((thr p m s j : ℝ) : EReal)) ((1 : ℝ) : EReal) ((0 : ℝ) : EReal)
      = (((if knot p.w j ≤ (x - m) / s then 1 else 0 : ℝ)) : EReal) := by
  have h := thr_le (p := p) (m := m) hs x j
  by_cases hc : knot p.w j ≤ (x - m) / s
  · have : Ideal.cmp .oge ((x : ℝ) : EReal) ((thr p m s j : ℝ) : EReal) = 1#1 := by
      show BitVec.ofBool (decide _) = _
      rw [decide_eq_true (EReal.coe_le_coe_iff.mpr (h.mpr hc))]; rfl
    rw [this, select_one, if_pos hc]
  · have : Ideal.cmp .oge ((x : ℝ) : EReal) ((thr p m s j : ℝ) : EReal) = 0#1 := by
      show BitVec.ofBool (decide _) = _
      rw [decide_eq_false (fun e => hc (h.mp (EReal.coe_le_coe_iff.mp e)))]; rfl
    rw [this, select_zero, if_neg hc]

/-- The kernel's test for a value beyond the knots. -/
theorem tail_thr (hs : 0 < s) (x : ℝ) (a b : EReal) :
    Scalar.select (Scalar.ori (Ideal.cmp .olt ((x : ℝ) : EReal) ((thr p m s 0 : ℝ) : EReal))
        (Ideal.cmp .ogt ((x : ℝ) : EReal) ((m + 5 * s : ℝ) : EReal))) a b
      = if (x - m) / s < -5 ∨ 5 < (x - m) / s then a else b := by
  have h0 : x < thr p m s 0 ↔ (x - m) / s < -5 := by
    rw [← knot_zero p.w]; exact lt_iff_lt_of_le_iff_le (thr_le hs x 0)
  have h1 : m + 5 * s < x ↔ 5 < (x - m) / s := by
    rw [lt_div_iff₀ hs]; constructor <;> intro h <;> linarith
  have e0 : Ideal.cmp .olt ((x : ℝ) : EReal) ((thr p m s 0 : ℝ) : EReal) = BitVec.ofBool (decide ((x - m) / s < -5)) := by
    show BitVec.ofBool (decide _) = _
    exact congrArg _ (decide_eq_decide.mpr (EReal.coe_lt_coe_iff.trans h0))
  have e1 : Ideal.cmp .ogt ((x : ℝ) : EReal) ((m + 5 * s : ℝ) : EReal) = BitVec.ofBool (decide (5 < (x - m) / s)) := by
    show BitVec.ofBool (decide _) = _
    exact congrArg _ (decide_eq_decide.mpr (EReal.coe_lt_coe_iff.trans h1))
  rw [e0, e1]
  by_cases c0 : (x - m) / s < -5 <;> by_cases c1 : 5 < (x - m) / s <;>
    simp only [c0, c1, decide_true, decide_false, or_true, or_false, if_true, if_false, true_or] <;> rfl

/-- A quotient whose denominator is kept from zero. -/
theorem div_max_coe (a b : ℝ) : Ideal.div ((a : ℝ) : EReal) ((max b tiny : ℝ) : EReal) = ((a / max b tiny : ℝ) : EReal) :=
  div_coe _ _ (lt_of_lt_of_le tiny_pos (le_max_right _ _)).ne'

/-- The place within a piece, from the table. -/
theorem zeta_table (x : ℝ) (k : Fin 8) :
    min 1 (max 0 (tabP p s k * x - tabQ p m s k)) = zeta p ((x - m) / s) k := by
  rw [min_comm, max_comm]
  unfold zeta tabP tabQ inv
  congr 2
  ring

/-- A piece's value, from the table. -/
theorem piece_table (z : ℝ) (k : Fin 8) :
    tabK p k + (tabA p k * (zeta p z k * zeta p z k) + tabB p k * (zeta p z k - zeta p z k * zeta p z k))
      / max (tabS p k + tabD p k * (zeta p z k - zeta p z k * zeta p z k)) tiny = piece p z k := by
  have hr : tabS p k = rate p k := by unfold tabS inv rate; ring
  unfold piece tabK tabA tabB tabD
  simp only [hr]
  congr 2
  · ring
  · congr 1
    ring

end Cert.Flow

end
-- ==== Proof.KernelTable.lean ====
/- The table the kernel holds for a column once its network has run: every row of it, at a lane, is the table's entry for
   that column. -/
module

public import proofs.«01_k».proof.Proof.KernelPar
public import proofs.«01_k».proof.Proof.Table

@[expose] public section

noncomputable section

namespace Cert.KernelValue

open Cert.KernelIdeal Cert.KernelIdeal.Gen Idealize.ShloMosaic Idealize.ShloMosaic.TcCoe Idealize.ShloMosaic.ValueIdx
open Idealize.ShloMosaic.Tactic Cert.Flow Cert.Lift

/-- The sixty-eight rows hold, at lane `l`, the table for the parameters `p`, the mean `m` and the spread `s`. -/
structure IsTable (p : Par) (m s : ℝ) (l : Fin 256)
    (v4 v35 v3881 v3893 v3897 v3899 v3901 v3903 v3905 v3907 v3909 v3911 v3944 v3945 v3946 v3947 v3948 v3949 v3950
    v3951 v3954 v3956 v3958 v3960 v3962 v3964 v3966 v3968 v3971 v3972 v3973 v3974 v3975 v3976 v3977 v3978 v3979
    v3981 v3983 v3985 v3987 v3989 v3991 v3993 v3995 v3996 v3997 v3998 v3999 v4000 v4001 v4002 v4003 v4004 v4005
    v4006 v4007 v4008 v4009 v4010 v4011 v4015 v4019 v4023 v4027 v4031 v4035 v4039 : FVec Ideal S1x256 .f32) : Prop where
  /-- the column's mean -/
  mean_eq : v4 (ix2 0 l) = ((m : ℝ) : EReal)
  /-- one over its spread -/
  std_eq : v35 (ix2 0 l) = ((1 / s : ℝ) : EReal)
  /-- the last two slopes -/
  d_eq : v3881 (ix2 0 l) = ((p.d 7 : ℝ) : EReal)
    ∧ v3893 (ix2 0 l) = ((p.d 8 : ℝ) : EReal)
  /-- the heights at the left ends -/
  K_eq : v3897 (ix2 0 l) = ((tabK p 0 : ℝ) : EReal)
    ∧ v3899 (ix2 0 l) = ((tabK p 1 : ℝ) : EReal)
    ∧ v3901 (ix2 0 l) = ((tabK p 2 : ℝ) : EReal)
    ∧ v3903 (ix2 0 l) = ((tabK p 3 : ℝ) : EReal)
    ∧ v3905 (ix2 0 l) = ((tabK p 4 : ℝ) : EReal)
    ∧ v3907 (ix2 0 l) = ((tabK p 5 : ℝ) : EReal)
    ∧ v3909 (ix2 0 l) = ((tabK p 6 : ℝ) : EReal)
    ∧ v3911 (ix2 0 l) = ((tabK p 7 : ℝ) : EReal)
  /-- the rises over the widths -/
  S_eq : v3944 (ix2 0 l) = ((tabS p 0 : ℝ) : EReal)
    ∧ v3945 (ix2 0 l) = ((tabS p 1 : ℝ) : EReal)
    ∧ v3946 (ix2 0 l) = ((tabS p 2 : ℝ) : EReal)
    ∧ v3947 (ix2 0 l) = ((tabS p 3 : ℝ) : EReal)
    ∧ v3948 (ix2 0 l) = ((tabS p 4 : ℝ) : EReal)
    ∧ v3949 (ix2 0 l) = ((tabS p 5 : ℝ) : EReal)
    ∧ v3950 (ix2 0 l) = ((tabS p 6 : ℝ) : EReal)
    ∧ v3951 (ix2 0 l) = ((tabS p 7 : ℝ) : EReal)
  /-- the knots on the column's scale -/
  thr_eq : v3954 (ix2 0 l) = ((thr p m s 0 : ℝ) : EReal)
    ∧ v3956 (ix2 0 l) = ((thr p m s 1 : ℝ) : EReal)
    ∧ v3958 (ix2 0 l) = ((thr p m s 2 : ℝ) : EReal)
    ∧ v3960 (ix2 0 l) = ((thr p m s 3 : ℝ) : EReal)
    ∧ v3962 (ix2 0 l) = ((thr p m s 4 : ℝ) : EReal)
    ∧ v3964 (ix2 0 l) = ((thr p m s 5 : ℝ) : EReal)
    ∧ v3966 (ix2 0 l) = ((thr p m s 6 : ℝ) : EReal)
    ∧ v3968 (ix2 0 l) = ((thr p m s 7 : ℝ) : EReal)
    ∧ v3971 (ix2 0 l) = ((m + 5 * s : ℝ) : EReal)
  /-- the places' factors -/
  P_eq : v3972 (ix2 0 l) = ((tabP p s 0 : ℝ) : EReal)
    ∧ v3973 (ix2 0 l) = ((tabP p s 1 : ℝ) : EReal)
    ∧ v3974 (ix2 0 l) = ((tabP p s 2 : ℝ) : EReal)
    ∧ v3975 (ix2 0 l) = ((tabP p s 3 : ℝ) : EReal)
    ∧ v3976 (ix2 0 l) = ((tabP p s 4 : ℝ) : EReal)
    ∧ v3977 (ix2 0 l) = ((tabP p s 5 : ℝ) : EReal)
    ∧ v3978 (ix2 0 l) = ((tabP p s 6 : ℝ) : EReal)
    ∧ v3979 (ix2 0 l) = ((tabP p s 7 : ℝ) : EReal)
  /-- the places' offsets -/
  Q_eq : v3981 (ix2 0 l) = ((tabQ p m s 0 : ℝ) : EReal)
    ∧ v3983 (ix2 0 l) = ((tabQ p m s 1 : ℝ) : EReal)
    ∧ v3985 (ix2 0 l) = ((tabQ p m s 2 : ℝ) : EReal)
    ∧ v3987 (ix2 0 l) = ((tabQ p m s 3 : ℝ) : EReal)
    ∧ v3989 (ix2 0 l) = ((tabQ p m s 4 : ℝ) : EReal)
    ∧ v3991 (ix2 0 l) = ((tabQ p m s 5 : ℝ) : EReal)
    ∧ v3993 (ix2 0 l) = ((tabQ p m s 6 : ℝ) : EReal)
    ∧ v3995 (ix2 0 l) = ((tabQ p m s 7 : ℝ) : EReal)
  /-- the numerators' first coefficients -/
  A_eq : v3996 (ix2 0 l) = ((tabA p 0 : ℝ) : EReal)
    ∧ v3997 (ix2 0 l) = ((tabA p 1 : ℝ) : EReal)
    ∧ v3998 (ix2 0 l) = ((tabA p 2 : ℝ) : EReal)
    ∧ v3999 (ix2 0 l) = ((tabA p 3 : ℝ) : EReal)
    ∧ v4000 (ix2 0 l) = ((tabA p 4 : ℝ) : EReal)
    ∧ v4001 (ix2 0 l) = ((tabA p 5 : ℝ) : EReal)
    ∧ v4002 (ix2 0 l) = ((tabA p 6 : ℝ) : EReal)
    ∧ v4003 (ix2 0 l) = ((tabA p 7 : ℝ) : EReal)
  /-- the numerators' second coefficients -/
  B_eq : v4004 (ix2 0 l) = ((tabB p 0 : ℝ) : EReal)
    ∧ v4005 (ix2 0 l) = ((tabB p 1 : ℝ) : EReal)
    ∧ v4006 (ix2 0 l) = ((tabB p 2 : ℝ) : EReal)
    ∧ v4007 (ix2 0 l) = ((tabB p 3 : ℝ) : EReal)
    ∧ v4008 (ix2 0 l) = ((tabB p 4 : ℝ) : EReal)
    ∧ v4009 (ix2 0 l) = ((tabB p 5 : ℝ) : EReal)
    ∧ v4010 (ix2 0 l) = ((tabB p 6 : ℝ) : EReal)
    ∧ v4011 (ix2 0 l) = ((tabB p 7 : ℝ) : EReal)
  /-- the denominators' second coefficients -/
  D_eq : v4015 (ix2 0 l) = ((tabD p 0 : ℝ) : EReal)
    ∧ v4019 (ix2 0 l) = ((tabD p 1 : ℝ) : EReal)
    ∧ v4023 (ix2 0 l) = ((tabD p 2 : ℝ) : EReal)
    ∧ v4027 (ix2 0 l) = ((tabD p 3 : ℝ) : EReal)
    ∧ v4031 (ix2 0 l) = ((tabD p 4 : ℝ) : EReal)
    ∧ v4035 (ix2 0 l) = ((tabD p 5 : ℝ) : EReal)
    ∧ v4039 (ix2 0 l) = ((tabD p 6 : ℝ) : EReal)

/-- The five the kernel holds. -/
theorem five_eq : (Scalar.ofBits .f32 0x40A00000#32 : Ideal .f32) = ((5 : ℝ) : EReal) := ofBits_5

/-- The two the kernel holds. -/
theorem two_eq : (Scalar.ofBits .f32 0x40000000#32 : Ideal .f32) = ((2 : ℝ) : EReal) := ofBits_2

/-- The least width the kernel divides by. -/
theorem tiny_eq : (Scalar.ofBits .f32 0x322BCC77#32 : Ideal .f32) = ((tiny : ℝ) : EReal) := ofBits_tiny

variable (c : Dev nD) (i : grid0.Coords) (arg1 : Memref sig .tc .smem S2x32 .f32) (harg1 : arg1.IsWhole)
  (arg2 : Memref sig .tc .smem S32 .f32) (harg2 : arg2.IsWhole) (arg3 : Memref sig .tc .smem S32x25 .f32) (harg3 : arg3.IsWhole)
  (arg4 : Memref sig .tc .smem S25 .f32) (harg4 : arg4.IsWhole) (arg5 : Memref sig .tc .vmem S1x8192x256 .f32) (harg5 : arg5.IsWhole)
  (arg6 : Memref sig .tc .vmem S1x8192x256 .f32) (harg6 : arg6.IsWhole) (x0 : Vec Ideal S2x32 .f32) (x1 : Vec Ideal S32 .f32)
  (x2 : Vec Ideal S32x25 .f32) (x3 : Vec Ideal S25 .f32) (X : Vec Ideal S1x8192x256 .f32)

/-- The knots. -/
theorem knot_words_w (N : Net) (hN : IsNet N x0 x1 x2 x3) (l : Fin 256) (x : Fin 8192 → ℝ)
    (hx : ∀ t, X (ix3 0 t l) = ((x t : ℝ) : EReal)) :
    kernelRun0_A.sl.r_1129 (F := Ideal) (ix2 0 l) = ((knot (par N (skew x) (ekurt x)).w 0 : ℝ) : EReal)
      ∧ kernelRun0_A.sl.r_1131 c i arg1 harg1 arg2 harg2 arg3 harg3 arg4 harg4 arg5 harg5 arg6 harg6 x0 x1 x2 x3 X (ix2 0 l) = ((knot (par N (skew x) (ekurt x)).w 1 : ℝ) : EReal)
      ∧ kernelRun0_A.sl.r_1133 c i arg1 harg1 arg2 harg2 arg3 harg3 arg4 harg4 arg5 harg5 arg6 harg6 x0 x1 x2 x3 X (ix2 0 l) = ((knot (par N (skew x) (ekurt x)).w 2 : ℝ) : EReal)
      ∧ kernelRun0_A.sl.r_1135 c i arg1 harg1 arg2 harg2 arg3 harg3 arg4 harg4 arg5 harg5 arg6 harg6 x0 x1 x2 x3 X (ix2 0 l) = ((knot (par N (skew x) (ekurt x)).w 3 : ℝ) : EReal)
      ∧ kernelRun0_A.sl.r_1137 c i arg1 harg1 arg2 harg2 arg3 harg3 arg4 harg4 arg5 harg5 arg6 harg6 x0 x1 x2 x3 X (ix2 0 l) = ((knot (par N (skew x) (ekurt x)).w 4 : ℝ) : EReal)
      ∧ kernelRun0_A.sl.r_1139 c i arg1 harg1 arg2 harg2 arg3 harg3 arg4 harg4 arg5 harg5 arg6 harg6 x0 x1 x2 x3 X (ix2 0 l) = ((knot (par N (skew x) (ekurt x)).w 5 : ℝ) : EReal)
      ∧ kernelRun0_A.sl.r_1141 c i arg1 harg1 arg2 harg2 arg3 harg3 arg4 harg4 arg5 harg5 arg6 harg6 x0 x1 x2 x3 X (ix2 0 l) = ((knot (par N (skew x) (ekurt x)).w 6 : ℝ) : EReal)
      ∧ kernelRun0_A.sl.r_1143 c i arg1 harg1 arg2 harg2 arg3 harg3 arg4 harg4 arg5 harg5 arg6 harg6 x0 x1 x2 x3 X (ix2 0 l) = ((knot (par N (skew x) (ekurt x)).w 7 : ℝ) : EReal) := by
  obtain ⟨a0, a1, a2, a3, a4, a5, a6, a7⟩ := width_words c i arg1 harg1 arg2 harg2 arg3 harg3 arg4 harg4 arg5 harg5 arg6 harg6 x0 x1 x2 x3 X N hN l x hx
  obtain ⟨n0, n1, n2, n3, n4, n5, n6, n7, -⟩ := knots (par N (skew x) (ekurt x)).w
  simp only [n1, n2, n3, n4, n5, n6, n7, n0]
  simp only [kernelRun0_A.sl.r_1129, kernelRun0_A.sl.r_1131, kernelRun0_A.sl.r_1133, kernelRun0_A.sl.r_1135, kernelRun0_A.sl.r_1137,
    kernelRun0_A.sl.r_1139, kernelRun0_A.sl.r_1141, kernelRun0_A.sl.r_1143]
  simp only [k0_pay256, k0_pay257, k0_pay258, k0_pay259, k0_pay260, k0_pay261, k0_pay262, k0_pay263, k0_pay264, k0_pay265, k0_pay266,
    k0_pay267, k0_pay268, k0_pay269, k0_pay270, k0_pay271,
    addf_apply, subf_apply, broadcast_apply, zero_row, five_eq, a0, a1, a2, a3, a4, a5, a6, a7, ← EReal.coe_add, ← EReal.coe_sub,
    zero_sub, and_self]

/-- The heights at the knots. -/
theorem knot_words_h (N : Net) (hN : IsNet N x0 x1 x2 x3) (l : Fin 256) (x : Fin 8192 → ℝ)
    (hx : ∀ t, X (ix3 0 t l) = ((x t : ℝ) : EReal)) :
    kernelRun0_A.sl.r_1130 (F := Ideal) (ix2 0 l) = ((knot (par N (skew x) (ekurt x)).h 0 : ℝ) : EReal)
      ∧ kernelRun0_A.sl.r_1132 c i arg1 harg1 arg2 harg2 arg3 harg3 arg4 harg4 arg5 harg5 arg6 harg6 x0 x1 x2 x3 X (ix2 0 l) = ((knot (par N (skew x) (ekurt x)).h 1 : ℝ) : EReal)
      ∧ kernelRun0_A.sl.r_1134 c i arg1 harg1 arg2 harg2 arg3 harg3 arg4 harg4 arg5 harg5 arg6 harg6 x0 x1 x2 x3 X (ix2 0 l) = ((knot (par N (skew x) (ekurt x)).h 2 : ℝ) : EReal)
      ∧ kernelRun0_A.sl.r_1136 c i arg1 harg1 arg2 harg2 arg3 harg3 arg4 harg4 arg5 harg5 arg6 harg6 x0 x1 x2 x3 X (ix2 0 l) = ((knot (par N (skew x) (ekurt x)).h 3 : ℝ) : EReal)
      ∧ kernelRun0_A.sl.r_1138 c i arg1 harg1 arg2 harg2 arg3 harg3 arg4 harg4 arg5 harg5 arg6 harg6 x0 x1 x2 x3 X (ix2 0 l) = ((knot (par N (skew x) (ekurt x)).h 4 : ℝ) : EReal)
      ∧ kernelRun0_A.sl.r_1140 c i arg1 harg1 arg2 harg2 arg3 harg3 arg4 harg4 arg5 harg5 arg6 harg6 x0 x1 x2 x3 X (ix2 0 l) = ((knot (par N (skew x) (ekurt x)).h 5 : ℝ) : EReal)
      ∧ kernelRun0_A.sl.r_1142 c i arg1 harg1 arg2 harg2 arg3 harg3 arg4 harg4 arg5 harg5 arg6 harg6 x0 x1 x2 x3 X (ix2 0 l) = ((knot (par N (skew x) (ekurt x)).h 6 : ℝ) : EReal)
      ∧ kernelRun0_A.sl.r_1144 c i arg1 harg1 arg2 harg2 arg3 harg3 arg4 harg4 arg5 harg5 arg6 harg6 x0 x1 x2 x3 X (ix2 0 l) = ((knot (par N (skew x) (ekurt x)).h 7 : ℝ) : EReal) := by
  obtain ⟨a0, a1, a2, a3, a4, a5, a6, a7⟩ := height_words c i arg1 harg1 arg2 harg2 arg3 harg3 arg4 harg4 arg5 harg5 arg6 harg6 x0 x1 x2 x3 X N hN l x hx
  obtain ⟨n0, n1, n2, n3, n4, n5, n6, n7, -⟩ := knots (par N (skew x) (ekurt x)).h
  simp only [n1, n2, n3, n4, n5, n6, n7, n0]
  simp only [kernelRun0_A.sl.r_1130, kernelRun0_A.sl.r_1132, kernelRun0_A.sl.r_1134, kernelRun0_A.sl.r_1136, kernelRun0_A.sl.r_1138,
    kernelRun0_A.sl.r_1140, kernelRun0_A.sl.r_1142, kernelRun0_A.sl.r_1144]
  simp only [k0_pay256, k0_pay257, k0_pay258, k0_pay259, k0_pay260, k0_pay261, k0_pay262, k0_pay263, k0_pay264, k0_pay265, k0_pay266,
    k0_pay267, k0_pay268, k0_pay269, k0_pay270, k0_pay271,
    addf_apply, subf_apply, broadcast_apply, zero_row, five_eq, a0, a1, a2, a3, a4, a5, a6, a7, ← EReal.coe_add, ← EReal.coe_sub,
    zero_sub, and_self]

set_option maxHeartbeats 4000000 in
/-- The kernel's table at a lane. -/
theorem table_words (N : Net) (hN : IsNet N x0 x1 x2 x3) (l : Fin 256) (x : Fin 8192 → ℝ)
    (hx : ∀ t, X (ix3 0 t l) = ((x t : ℝ) : EReal)) :
    IsTable (par N (skew x) (ekurt x)) (mean x) (dev x) l
      (kernelRun0_A.sl.r c i arg1 harg1 arg2 harg2 arg3 harg3 arg4 harg4 arg5 harg5 arg6 harg6 X)
      (kernelRun0_A.sl.r_2 c i arg1 harg1 arg2 harg2 arg3 harg3 arg4 harg4 arg5 harg5 arg6 harg6 X)
      (kernelRun0_A.sl.r_1125 c i arg1 harg1 arg2 harg2 arg3 harg3 arg4 harg4 arg5 harg5 arg6 harg6 x0 x1 x2 x3 X)
      (kernelRun0_A.sl.r_1128 c i arg1 harg1 arg2 harg2 arg3 harg3 arg4 harg4 arg5 harg5 arg6 harg6 x0 x1 x2 x3 X)
      (kernelRun0_A.sl.r_1130 (F := Ideal))
      (kernelRun0_A.sl.r_1132 c i arg1 harg1 arg2 harg2 arg3 harg3 arg4 harg4 arg5 harg5 arg6 harg6 x0 x1 x2 x3 X)
      (kernelRun0_A.sl.r_1134 c i arg1 harg1 arg2 harg2 arg3 harg3 arg4 harg4 arg5 harg5 arg6 harg6 x0 x1 x2 x3 X)
      (kernelRun0_A.sl.r_1136 c i arg1 harg1 arg2 harg2 arg3 harg3 arg4 harg4 arg5 harg5 arg6 harg6 x0 x1 x2 x3 X)
      (kernelRun0_A.sl.r_1138 c i arg1 harg1 arg2 harg2 arg3 harg3 arg4 harg4 arg5 harg5 arg6 harg6 x0 x1 x2 x3 X)
      (kernelRun0_A.sl.r_1140 c i arg1 harg1 arg2 harg2 arg3 harg3 arg4 harg4 arg5 harg5 arg6 harg6 x0 x1 x2 x3 X)
      (kernelRun0_A.sl.r_1142 c i arg1 harg1 arg2 harg2 arg3 harg3 arg4 harg4 arg5 harg5 arg6 harg6 x0 x1 x2 x3 X)
      (kernelRun0_A.sl.r_1144 c i arg1 harg1 arg2 harg2 arg3 harg3 arg4 harg4 arg5 harg5 arg6 harg6 x0 x1 x2 x3 X)
      (kernelRun0_A.sl.r_1153 c i arg1 harg1 arg2 harg2 arg3 harg3 arg4 harg4 arg5 harg5 arg6 harg6 x0 x1 x2 x3 X)
      (kernelRun0_A.sl.r_1154 c i arg1 harg1 arg2 harg2 arg3 harg3 arg4 harg4 arg5 harg5 arg6 harg6 x0 x1 x2 x3 X)
      (kernelRun0_A.sl.r_1155 c i arg1 harg1 arg2 harg2 arg3 harg3 arg4 harg4 arg5 harg5 arg6 harg6 x0 x1 x2 x3 X)
      (kernelRun0_A.sl.r_1156 c i arg1 harg1 arg2 harg2 arg3 harg3 arg4 harg4 arg5 harg5 arg6 harg6 x0 x1 x2 x3 X)
      (kernelRun0_A.sl.r_1157 c i arg1 harg1 arg2 harg2 arg3 harg3 arg4 harg4 arg5 harg5 arg6 harg6 x0 x1 x2 x3 X)
      (kernelRun0_A.sl.r_1158 c i arg1 harg1 arg2 harg2 arg3 harg3 arg4 harg4 arg5 harg5 arg6 harg6 x0 x1 x2 x3 X)
      (kernelRun0_A.sl.r_1159 c i arg1 harg1 arg2 harg2 arg3 harg3 arg4 harg4 arg5 harg5 arg6 harg6 x0 x1 x2 x3 X)
      (kernelRun0_A.sl.r_1160 c i arg1 harg1 arg2 harg2 arg3 harg3 arg4 harg4 arg5 harg5 arg6 harg6 x0 x1 x2 x3 X)
      (kernelRun0_A.sl.r_1162 c i arg1 harg1 arg2 harg2 arg3 harg3 arg4 harg4 arg5 harg5 arg6 harg6 X)
      (kernelRun0_A.sl.r_1163 c i arg1 harg1 arg2 harg2 arg3 harg3 arg4 harg4 arg5 harg5 arg6 harg6 x0 x1 x2 x3 X)
      (kernelRun0_A.sl.r_1164 c i arg1 harg1 arg2 harg2 arg3 harg3 arg4 harg4 arg5 harg5 arg6 harg6 x0 x1 x2 x3 X)
      (kernelRun0_A.sl.r_1165 c i arg1 harg1 arg2 harg2 arg3 harg3 arg4 harg4 arg5 harg5 arg6 harg6 x0 x1 x2 x3 X)
      (kernelRun0_A.sl.r_1166 c i arg1 harg1 arg2 harg2 arg3 harg3 arg4 harg4 arg5 harg5 arg6 harg6 x0 x1 x2 x3 X)
      (kernelRun0_A.sl.r_1167 c i arg1 harg1 arg2 harg2 arg3 harg3 arg4 harg4 arg5 harg5 arg6 harg6 x0 x1 x2 x3 X)
      (kernelRun0_A.sl.r_1168 c i arg1 harg1 arg2 harg2 arg3 harg3 arg4 harg4 arg5 harg5 arg6 harg6 x0 x1 x2 x3 X)
      (kernelRun0_A.sl.r_1169 c i arg1 harg1 arg2 harg2 arg3 harg3 arg4 harg4 arg5 harg5 arg6 harg6 x0 x1 x2 x3 X)
      (kernelRun0_A.sl.r_1170 c i arg1 harg1 arg2 harg2 arg3 harg3 arg4 harg4 arg5 harg5 arg6 harg6 X)
      (kernelRun0_A.sl.r_1171 c i arg1 harg1 arg2 harg2 arg3 harg3 arg4 harg4 arg5 harg5 arg6 harg6 x0 x1 x2 x3 X)
      (kernelRun0_A.sl.r_1172 c i arg1 harg1 arg2 harg2 arg3 harg3 arg4 harg4 arg5 harg5 arg6 harg6 x0 x1 x2 x3 X)
      (kernelRun0_A.sl.r_1173 c i arg1 harg1 arg2 harg2 arg3 harg3 arg4 harg4 arg5 harg5 arg6 harg6 x0 x1 x2 x3 X)
      (kernelRun0_A.sl.r_1174 c i arg1 harg1 arg2 harg2 arg3 harg3 arg4 harg4 arg5 harg5 arg6 harg6 x0 x1 x2 x3 X)
      (kernelRun0_A.sl.r_1175 c i arg1 harg1 arg2 harg2 arg3 harg3 arg4 harg4 arg5 harg5 arg6 harg6 x0 x1 x2 x3 X)
      (kernelRun0_A.sl.r_1176 c i arg1 harg1 arg2 harg2 arg3 harg3 arg4 harg4 arg5 harg5 arg6 harg6 x0 x1 x2 x3 X)
      (kernelRun0_A.sl.r_1177 c i arg1 harg1 arg2 harg2 arg3 harg3 arg4 harg4 arg5 harg5 arg6 harg6 x0 x1 x2 x3 X)
      (kernelRun0_A.sl.r_1178 c i arg1 harg1 arg2 harg2 arg3 harg3 arg4 harg4 arg5 harg5 arg6 harg6 x0 x1 x2 x3 X)
      (kernelRun0_A.sl.r_1179 c i arg1 harg1 arg2 harg2 arg3 harg3 arg4 harg4 arg5 harg5 arg6 harg6 x0 x1 x2 x3 X)
      (kernelRun0_A.sl.r_1180 c i arg1 harg1 arg2 harg2 arg3 harg3 arg4 harg4 arg5 harg5 arg6 harg6 x0 x1 x2 x3 X)
      (kernelRun0_A.sl.r_1181 c i arg1 harg1 arg2 harg2 arg3 harg3 arg4 harg4 arg5 harg5 arg6 harg6 x0 x1 x2 x3 X)
      (kernelRun0_A.sl.r_1183 c i arg1 harg1 arg2 harg2 arg3 harg3 arg4 harg4 arg5 harg5 arg6 harg6 x0 x1 x2 x3 X)
      (kernelRun0_A.sl.r_1184 c i arg1 harg1 arg2 harg2 arg3 harg3 arg4 harg4 arg5 harg5 arg6 harg6 x0 x1 x2 x3 X)
      (kernelRun0_A.sl.r_1185 c i arg1 harg1 arg2 harg2 arg3 harg3 arg4 harg4 arg5 harg5 arg6 harg6 x0 x1 x2 x3 X)
      (kernelRun0_A.sl.r_1186 c i arg1 harg1 arg2 harg2 arg3 harg3 arg4 harg4 arg5 harg5 arg6 harg6 x0 x1 x2 x3 X)
      (kernelRun0_A.sl.r_1187 c i arg1 harg1 arg2 harg2 arg3 harg3 arg4 harg4 arg5 harg5 arg6 harg6 x0 x1 x2 x3 X)
      (kernelRun0_A.sl.r_1188 c i arg1 harg1 arg2 harg2 arg3 harg3 arg4 harg4 arg5 harg5 arg6 harg6 x0 x1 x2 x3 X)
      (kernelRun0_A.sl.r_1189 c i arg1 harg1 arg2 harg2 arg3 harg3 arg4 harg4 arg5 harg5 arg6 harg6 x0 x1 x2 x3 X)
      (kernelRun0_A.sl.r_1190 c i arg1 harg1 arg2 harg2 arg3 harg3 arg4 harg4 arg5 harg5 arg6 harg6 x0 x1 x2 x3 X)
      (kernelRun0_A.sl.r_1191 c i arg1 harg1 arg2 harg2 arg3 harg3 arg4 harg4 arg5 harg5 arg6 harg6 x0 x1 x2 x3 X)
      (kernelRun0_A.sl.r_1192 c i arg1 harg1 arg2 harg2 arg3 harg3 arg4 harg4 arg5 harg5 arg6 harg6 x0 x1 x2 x3 X)
      (kernelRun0_A.sl.r_1193 c i arg1 harg1 arg2 harg2 arg3 harg3 arg4 harg4 arg5 harg5 arg6 harg6 x0 x1 x2 x3 X)
      (kernelRun0_A.sl.r_1194 c i arg1 harg1 arg2 harg2 arg3 harg3 arg4 harg4 arg5 harg5 arg6 harg6 x0 x1 x2 x3 X)
      (kernelRun0_A.sl.r_1195 c i arg1 harg1 arg2 harg2 arg3 harg3 arg4 harg4 arg5 harg5 arg6 harg6 x0 x1 x2 x3 X)
      (kernelRun0_A.sl.r_1196 c i arg1 harg1 arg2 harg2 arg3 harg3 arg4 harg4 arg5 harg5 arg6 harg6 x0 x1 x2 x3 X)
      (kernelRun0_A.sl.r_1197 c i arg1 harg1 arg2 harg2 arg3 harg3 arg4 harg4 arg5 harg5 arg6 harg6 x0 x1 x2 x3 X)
      (kernelRun0_A.sl.r_1198 c i arg1 harg1 arg2 harg2 arg3 harg3 arg4 harg4 arg5 harg5 arg6 harg6 x0 x1 x2 x3 X)
      (kernelRun0_A.sl.r_1199 c i arg1 harg1 arg2 harg2 arg3 harg3 arg4 harg4 arg5 harg5 arg6 harg6 x0 x1 x2 x3 X)
      (kernelRun0_A.sl.r_1200 c i arg1 harg1 arg2 harg2 arg3 harg3 arg4 harg4 arg5 harg5 arg6 harg6 x0 x1 x2 x3 X)
      (kernelRun0_A.sl.r_1201 c i arg1 harg1 arg2 harg2 arg3 harg3 arg4 harg4 arg5 harg5 arg6 harg6 x0 x1 x2 x3 X)
      (kernelRun0_A.sl.r_1202 c i arg1 harg1 arg2 harg2 arg3 harg3 arg4 harg4 arg5 harg5 arg6 harg6 x0 x1 x2 x3 X)
      (kernelRun0_A.sl.r_1203 c i arg1 harg1 arg2 harg2 arg3 harg3 arg4 harg4 arg5 harg5 arg6 harg6 x0 x1 x2 x3 X)
      (kernelRun0_A.sl.r_1204 c i arg1 harg1 arg2 harg2 arg3 harg3 arg4 harg4 arg5 harg5 arg6 harg6 x0 x1 x2 x3 X)
      (kernelRun0_A.sl.r_1205 c i arg1 harg1 arg2 harg2 arg3 harg3 arg4 harg4 arg5 harg5 arg6 harg6 x0 x1 x2 x3 X)
      (kernelRun0_A.sl.r_1206 c i arg1 harg1 arg2 harg2 arg3 harg3 arg4 harg4 arg5 harg5 arg6 harg6 x0 x1 x2 x3 X)
      (kernelRun0_A.sl.r_1207 c i arg1 harg1 arg2 harg2 arg3 harg3 arg4 harg4 arg5 harg5 arg6 harg6 x0 x1 x2 x3 X)
      (kernelRun0_A.sl.r_1208 c i arg1 harg1 arg2 harg2 arg3 harg3 arg4 harg4 arg5 harg5 arg6 harg6 x0 x1 x2 x3 X)
      (kernelRun0_A.sl.r_1209 c i arg1 harg1 arg2 harg2 arg3 harg3 arg4 harg4 arg5 harg5 arg6 harg6 x0 x1 x2 x3 X)
      (kernelRun0_A.sl.r_1210 c i arg1 harg1 arg2 harg2 arg3 harg3 arg4 harg4 arg5 harg5 arg6 harg6 x0 x1 x2 x3 X) := by
  obtain ⟨hm, hd, hi, -, -⟩ := stat_words c i arg1 harg1 arg2 harg2 arg3 harg3 arg4 harg4 arg5 harg5 arg6 harg6 X l x hx
  obtain ⟨w0, w1, w2, w3, w4, w5, w6, w7⟩ := width_words c i arg1 harg1 arg2 harg2 arg3 harg3 arg4 harg4 arg5 harg5 arg6 harg6 x0 x1 x2 x3 X N hN l x hx
  obtain ⟨h0, h1, h2, h3, h4, h5, h6, h7⟩ := height_words c i arg1 harg1 arg2 harg2 arg3 harg3 arg4 harg4 arg5 harg5 arg6 harg6 x0 x1 x2 x3 X N hN l x hx
  obtain ⟨d0, d1, d2, d3, d4, d5, d6, d7, d8⟩ := slope_words c i arg1 harg1 arg2 harg2 arg3 harg3 arg4 harg4 arg5 harg5 arg6 harg6 x0 x1 x2 x3 X N hN l x hx
  obtain ⟨k0, k1, k2, k3, k4, k5, k6, k7⟩ := knot_words_w c i arg1 harg1 arg2 harg2 arg3 harg3 arg4 harg4 arg5 harg5 arg6 harg6 x0 x1 x2 x3 X N hN l x hx
  obtain ⟨y0, y1, y2, y3, y4, y5, y6, y7⟩ := knot_words_h c i arg1 harg1 arg2 harg2 arg3 harg3 arg4 harg4 arg5 harg5 arg6 harg6 x0 x1 x2 x3 X N hN l x hx
  refine ⟨hm, hi, ⟨d7, d8⟩, ⟨y0, y1, y2, y3, y4, y5, y6, y7⟩, ?_, ?_, ?_, ?_, ?_, ?_, ?_⟩
  all_goals
    simp only [kernelRun0_A.sl.r_1145, kernelRun0_A.sl.r_1146, kernelRun0_A.sl.r_1147, kernelRun0_A.sl.r_1148, kernelRun0_A.sl.r_1149,
    kernelRun0_A.sl.r_1150, kernelRun0_A.sl.r_1151, kernelRun0_A.sl.r_1152, kernelRun0_A.sl.r_1153, kernelRun0_A.sl.r_1154,
    kernelRun0_A.sl.r_1155, kernelRun0_A.sl.r_1156, kernelRun0_A.sl.r_1157, kernelRun0_A.sl.r_1158, kernelRun0_A.sl.r_1159,
    kernelRun0_A.sl.r_1160, kernelRun0_A.sl.r_1161, kernelRun0_A.sl.r_1162, kernelRun0_A.sl.r_1163, kernelRun0_A.sl.r_1164,
    kernelRun0_A.sl.r_1165, kernelRun0_A.sl.r_1166, kernelRun0_A.sl.r_1167, kernelRun0_A.sl.r_1168, kernelRun0_A.sl.r_1169,
    kernelRun0_A.sl.r_1170, kernelRun0_A.sl.r_1171, kernelRun0_A.sl.r_1172, kernelRun0_A.sl.r_1173, kernelRun0_A.sl.r_1174,
    kernelRun0_A.sl.r_1175, kernelRun0_A.sl.r_1176, kernelRun0_A.sl.r_1177, kernelRun0_A.sl.r_1178, kernelRun0_A.sl.r_1179,
    kernelRun0_A.sl.r_1180, kernelRun0_A.sl.r_1181, kernelRun0_A.sl.r_1182, kernelRun0_A.sl.r_1183, kernelRun0_A.sl.r_1184,
    kernelRun0_A.sl.r_1185, kernelRun0_A.sl.r_1186, kernelRun0_A.sl.r_1187, kernelRun0_A.sl.r_1188, kernelRun0_A.sl.r_1189,
    kernelRun0_A.sl.r_1190, kernelRun0_A.sl.r_1191, kernelRun0_A.sl.r_1192, kernelRun0_A.sl.r_1193, kernelRun0_A.sl.r_1194,
    kernelRun0_A.sl.r_1195, kernelRun0_A.sl.r_1196, kernelRun0_A.sl.r_1197, kernelRun0_A.sl.r_1198, kernelRun0_A.sl.r_1199,
    kernelRun0_A.sl.r_1200, kernelRun0_A.sl.r_1201, kernelRun0_A.sl.r_1202, kernelRun0_A.sl.r_1203, kernelRun0_A.sl.r_1204,
    kernelRun0_A.sl.r_1205, kernelRun0_A.sl.r_1206, kernelRun0_A.sl.r_1207, kernelRun0_A.sl.r_1208, kernelRun0_A.sl.r_1209,
    kernelRun0_A.sl.r_1210]
    simp only [k0_pay272, k0_pay273, k0_pay274, k0_pay275, k0_pay276, k0_pay277, k0_pay278, k0_pay279, k0_pay280, k0_pay281, k0_pay282,
    k0_pay283, k0_pay284, k0_pay285, k0_pay286, k0_pay287, k0_pay288, k0_pay289, k0_pay290, k0_pay291, k0_pay292, k0_pay293,
    k0_pay294, k0_pay295, k0_pay296, k0_pay297, k0_pay298, k0_pay299, k0_pay300, k0_pay301, k0_pay302, k0_pay303, k0_pay304,
    k0_pay305, k0_pay306, k0_pay307, k0_pay308, k0_pay309, k0_pay310, k0_pay311, k0_pay312, k0_pay313, k0_pay314, k0_pay315,
    k0_pay316, k0_pay317, k0_pay318, k0_pay319, k0_pay320, k0_pay321, k0_pay322, k0_pay323, k0_pay324, k0_pay325, k0_pay326,
    k0_pay327, k0_pay328, k0_pay329, k0_pay330, k0_pay331, k0_pay332, k0_pay333, k0_pay334, k0_pay335, k0_pay336, k0_pay337,
    k0_pay338,
      addf_apply, subf_apply, mulf_apply, divf_apply, maximumf_apply, broadcast_apply, one_eq, two_eq, five_eq, tiny_eq, hm, hd, hi,
      w0, w1, w2, w3, w4, w5, w6, w7, h0, h1, h2, h3, h4, h5, h6, h7, d0, d1, d2, d3, d4, d5, d6, d7, d8, k0, k1, k2, k3, k4, k5, k6, k7, y0, y1, y2, y3, y4, y5, y6, y7,
      max_coe, div_max_coe, ← EReal.coe_add, ← EReal.coe_sub, ← EReal.coe_mul]
    first
      | exact ⟨rfl, rfl, rfl, rfl, rfl, rfl, rfl, rfl, trivial⟩
      | exact ⟨rfl, rfl, rfl, rfl, rfl, rfl, rfl, rfl⟩
      | exact ⟨rfl, rfl, rfl, rfl, rfl, rfl, rfl⟩

end Cert.KernelValue

end
-- ==== Proof.KernelLoop.lean ====
/- The kernel's second loop: at a lane whose rows hold the table, each of its sixteen stores holds the flow of the values
   loaded, so the whole output block does. -/
module

public import proofs.«01_k».proof.Proof.KernelTable

@[expose] public section

noncomputable section

namespace Cert.KernelValue

open Cert.KernelIdeal Cert.KernelIdeal.Gen Idealize.ShloMosaic Idealize.ShloMosaic.TcCoe Idealize.ShloMosaic.ValueIdx
open Idealize.ShloMosaic.Tactic Cert.Flow Cert.Lift

/-- A row spread over a chunk, at a row and lane. -/
theorem spread (v : FVec Ideal S1x256 .f32) (h) (r : Fin 512) (l : Fin 256) :
    broadcastTo S512x256 v h (ix2 r l) = v (ix2 0 l) :=
  broadcastTo_apply v h (ix2 r l) (ix2 0 l) fun a => by
    match a with
    | ⟨0, _⟩ => rfl
    | ⟨1, _⟩ => rfl

/-- A row's place in the chunk that holds it. -/
theorem row_of {k : Fin 16} {r : Fin 512} {l l' : Fin 256} {t : Fin 8192} {u : Fin 1} (off : Fin 3 → ℕ) (inb) (ho : off = ![0, 512 * k.val, 0])
    (h : (Rect.unit (s := S1x8192x256) off ![1, 512, 256] inb).emb (ix3 u r l') = ix3 0 t l) : row k r = t ∧ l' = l := by
  subst ho
  constructor
  · have h1 : ((Rect.unit (s := S1x8192x256) ![0, 512 * k.val, 0] ![1, 512, 256] inb).emb (ix3 u r l') 1).val = t.val := by rw [h]
    rw [Rect.emb_apply] at h1
    exact Fin.ext ((congrArg (512 * k.val + ·) (Nat.one_mul r.val).symm).trans h1)
  · have h2 : ((Rect.unit (s := S1x8192x256) ![0, 512 * k.val, 0] ![1, 512, 256] inb).emb (ix3 u r l') 2).val = l.val := by rw [h]
    rw [Rect.emb_apply] at h2
    exact Fin.ext (((Nat.zero_add _).trans (Nat.one_mul _)).symm.trans h2)

/-- A loaded chunk, its leading axis dropped. -/
theorem pay1_at (L : Vec Ideal S1x512x256 .f32) (r : Fin 512) (l : Fin 256) : k0_pay1 (F := Ideal) L (ix2 r l) = L (ix3 0 r l) :=
  shapeCast_1ab_ab_apply _ _ r l

/-- What a trip stores, at a row and lane. -/
theorem pay388_at (a b v : FVec Ideal S512x256 .f32) (d : IVec S512x256 1) (e : FVec Ideal S512x256 .f32) (u : Fin 1) (r : Fin 512)
    (l : Fin 256) : k0_pay388 (F := Ideal) a b v d e (ix3 u r l)
      = Scalar.select (IntOp.ori (d (ix2 r l)) (Ideal.cmp .ogt (a (ix2 r l)) (e (ix2 r l)))) (v (ix2 r l)) (b (ix2 r l)) :=
  shapeCast_ab_1ab_apply (select (ori d (cmpf .ogt a e)) v b) _ u r l

/-- The comparisons, at a row and lane. -/
theorem cmp_at (q : CmpFPredicate) (a b : FVec Ideal S512x256 .f32) (j : S512x256.Idx) : cmpf q a b j = Ideal.cmp q (a j) (b j) := rfl

variable (c : Dev nD) (i : grid0.Coords) (arg1 : Memref sig .tc .smem S2x32 .f32) (harg1 : arg1.IsWhole)
  (arg2 : Memref sig .tc .smem S32 .f32) (harg2 : arg2.IsWhole) (arg3 : Memref sig .tc .smem S32x25 .f32) (harg3 : arg3.IsWhole)
  (arg4 : Memref sig .tc .smem S25 .f32) (harg4 : arg4.IsWhole) (arg5 : Memref sig .tc .vmem S1x8192x256 .f32) (harg5 : arg5.IsWhole)
  (arg6 : Memref sig .tc .vmem S1x8192x256 .f32) (harg6 : arg6.IsWhole) (X : Vec Ideal S1x8192x256 .f32)

set_option maxHeartbeats 8000000 in
/-- One trip's store, at a lane that holds the table. -/
theorem trip2 (k : Fin 16) (p : Par) (m s : ℝ) (l : Fin 256) (x : Fin 8192 → ℝ)
    (hw : ∀ k, 0 < p.w k) (hs : 0 < s) (hx : ∀ t, X (ix3 0 t l) = ((x t : ℝ) : EReal))
    (v4 v35 v3881 v3893 v3897 v3899 v3901 v3903 v3905 v3907 v3909 v3911 v3944 v3945 v3946 v3947 v3948 v3949 v3950
    v3951 v3954 v3956 v3958 v3960 v3962 v3964 v3966 v3968 v3971 v3972 v3973 v3974 v3975 v3976 v3977 v3978 v3979
    v3981 v3983 v3985 v3987 v3989 v3991 v3993 v3995 v3996 v3997 v3998 v3999 v4000 v4001 v4002 v4003 v4004 v4005
    v4006 v4007 v4008 v4009 v4010 v4011 v4015 v4019 v4023 v4027 v4031 v4035 v4039 : FVec Ideal S1x256 .f32)
    (hT : IsTable p m s l
      v4 v35 v3881 v3893 v3897 v3899 v3901 v3903 v3905 v3907 v3909 v3911 v3944 v3945 v3946 v3947 v3948 v3949 v3950
      v3951 v3954 v3956 v3958 v3960 v3962 v3964 v3966 v3968 v3971 v3972 v3973 v3974 v3975 v3976 v3977 v3978 v3979
      v3981 v3983 v3985 v3987 v3989 v3991 v3993 v3995 v3996 v3997 v3998 v3999 v4000 v4001 v4002 v4003 v4004 v4005
      v4006 v4007 v4008 v4009 v4010 v4011 v4015 v4019 v4023 v4027 v4031 v4035 v4039) :
    ∀ pc ∈ tripL_k0_t2 (F := Ideal) Variants.none c none i arg1 harg1 arg2 harg2 arg3 harg3 arg4 harg4 arg5 harg5 arg6 harg6
      v4 v35 v3881 v3893 v3897 v3899 v3901 v3903 v3905 v3907 v3909 v3911 v3944 v3945 v3946 v3947 v3948 v3949 v3950
      v3951 v3954 v3956 v3958 v3960 v3962 v3964 v3966 v3968 v3971 v3972 v3973 v3974 v3975 v3976 v3977 v3978 v3979
      v3981 v3983 v3985 v3987 v3989 v3991 v3993 v3995 v3996 v3997 v3998 v3999 v4000 v4001 v4002 v4003 v4004 v4005
      v4006 v4007 v4008 v4009 v4010 v4011 v4015 v4019 v4023 v4027 v4031 v4035 v4039 (harg5.unread X) k,
      ∀ (y : pc.1.shape.Idx) (t : Fin 8192), pc.1.emb y = ix3 0 t l → pc.2 y = ((flow p ((x t - m) / s) : ℝ) : EReal) := by
  obtain e0 := hT.mean_eq
  obtain e1 := hT.std_eq
  obtain ⟨e2, e3⟩ := hT.d_eq
  obtain ⟨e4, e5, e6, e7, e8, e9, e10, e11⟩ := hT.K_eq
  obtain ⟨e12, e13, e14, e15, e16, e17, e18, e19⟩ := hT.S_eq
  obtain ⟨e20, e21, e22, e23, e24, e25, e26, e27, e28⟩ := hT.thr_eq
  obtain ⟨e29, e30, e31, e32, e33, e34, e35, e36⟩ := hT.P_eq
  obtain ⟨e37, e38, e39, e40, e41, e42, e43, e44⟩ := hT.Q_eq
  obtain ⟨e45, e46, e47, e48, e49, e50, e51, e52⟩ := hT.A_eq
  obtain ⟨e53, e54, e55, e56, e57, e58, e59, e60⟩ := hT.B_eq
  obtain ⟨e61, e62, e63, e64, e65, e66, e67⟩ := hT.D_eq
  unfold tripL_k0_t2 trip_k0_t2
  dsimp only
  sl_unfold_words
  intro pc hpc
  rw [List.mem_singleton] at hpc
  subst hpc
  dsimp only
  intro y t hy
  obtain ⟨u, r, l', rfl⟩ : ∃ (u : Fin 1) (r : Fin 512) (l' : Fin 256), y = ix3 u r l' := ⟨y 0, y 1, y 2, eq_ix3 y⟩
  obtain ⟨rfl, rfl⟩ := row_of (k := k) _ _ (by rw [off_eq k]) hy
  have h := (ld_chunk X k _ (k0_off2_inb k) (by unfold k0_off2; dsimp only; rw [off_eq k]) r l').trans (hx _)
  simp only [View.readAt_eq_ld, harg5.read_unread]
  dsimp only [k0_off2] at h
  simp only [pay388_at, pay1_at, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay339, k0_pay340,
    k0_pay341, k0_pay342, k0_pay343, k0_pay344, k0_pay345, k0_pay346, k0_pay347, k0_pay348, k0_pay349, k0_pay350, k0_pay351,
    k0_pay352, k0_pay353, k0_pay354, k0_pay355, k0_pay356, k0_pay357, k0_pay358, k0_pay359, k0_pay360, k0_pay361, k0_pay362,
    k0_pay363, k0_pay364, k0_pay365, k0_pay366, k0_pay367, k0_pay368, k0_pay369, k0_pay370, k0_pay371, k0_pay372, k0_pay373,
    k0_pay374, k0_pay375, k0_pay376, k0_pay377, k0_pay378, k0_pay379, k0_pay380, k0_pay381, k0_pay382, k0_pay383, k0_pay384,
    k0_pay385, k0_pay386, k0_pay387,
    addf_apply, subf_apply, mulf_apply, divf_apply, maximumf_apply, minimumf_apply, broadcast_apply, cmp_at, select_apply, spread,
    one_eq, zero_eq, two_eq, tiny_eq, h,
    e0, e1, e2, e3, e4, e5, e6, e7, e8, e9, e10, e11, e12, e13, e14, e15, e16, e17, e18, e19, e20, e21, e22, e23, e24, e25,
    e26, e27, e28, e29, e30, e31, e32, e33, e34, e35, e36, e37, e38, e39, e40, e41, e42, e43, e44, e45, e46, e47, e48, e49,
    e50, e51, e52, e53, e54, e55, e56, e57, e58, e59, e60, e61, e62, e63, e64, e65, e66, e67]
  simp only [step_thr hs, max_coe, min_coe, ← EReal.coe_add, ← EReal.coe_sub, ← EReal.coe_mul]
  have pick := pick_eq p.w hw ((x (row k r) - m) / s)
  simp only [tabD_last, pick (tabP p s), pick (tabQ p m s), pick (tabK p), pick (tabA p), pick (tabB p), pick (tabS p), pick (tabD p),
    zeta_table, div_max_coe, ← EReal.coe_add, piece_table]
  refine (tail_thr hs _ _ _).trans ?_
  unfold flow
  split
  · exact congrArg _ (mul_one_div _ _)
  · rfl

/-- The stores of the trips before trip `n`, at a lane that holds the table. -/
theorem pieces (n : ℕ) (hn : n ≤ 16) (p : Par) (m s : ℝ) (l : Fin 256) (x : Fin 8192 → ℝ)
    (hw : ∀ k, 0 < p.w k) (hs : 0 < s) (hx : ∀ t, X (ix3 0 t l) = ((x t : ℝ) : EReal))
    (v4 v35 v3881 v3893 v3897 v3899 v3901 v3903 v3905 v3907 v3909 v3911 v3944 v3945 v3946 v3947 v3948 v3949 v3950
    v3951 v3954 v3956 v3958 v3960 v3962 v3964 v3966 v3968 v3971 v3972 v3973 v3974 v3975 v3976 v3977 v3978 v3979
    v3981 v3983 v3985 v3987 v3989 v3991 v3993 v3995 v3996 v3997 v3998 v3999 v4000 v4001 v4002 v4003 v4004 v4005
    v4006 v4007 v4008 v4009 v4010 v4011 v4015 v4019 v4023 v4027 v4031 v4035 v4039 : FVec Ideal S1x256 .f32)
    (hT : IsTable p m s l
      v4 v35 v3881 v3893 v3897 v3899 v3901 v3903 v3905 v3907 v3909 v3911 v3944 v3945 v3946 v3947 v3948 v3949 v3950
      v3951 v3954 v3956 v3958 v3960 v3962 v3964 v3966 v3968 v3971 v3972 v3973 v3974 v3975 v3976 v3977 v3978 v3979
      v3981 v3983 v3985 v3987 v3989 v3991 v3993 v3995 v3996 v3997 v3998 v3999 v4000 v4001 v4002 v4003 v4004 v4005
      v4006 v4007 v4008 v4009 v4010 v4011 v4015 v4019 v4023 v4027 v4031 v4035 v4039) :
    ∀ pc ∈ pb_k0_t2 (F := Ideal) Variants.none c none i arg1 harg1 arg2 harg2 arg3 harg3 arg4 harg4 arg5 harg5 arg6 harg6
      v4 v35 v3881 v3893 v3897 v3899 v3901 v3903 v3905 v3907 v3909 v3911 v3944 v3945 v3946 v3947 v3948 v3949 v3950
      v3951 v3954 v3956 v3958 v3960 v3962 v3964 v3966 v3968 v3971 v3972 v3973 v3974 v3975 v3976 v3977 v3978 v3979
      v3981 v3983 v3985 v3987 v3989 v3991 v3993 v3995 v3996 v3997 v3998 v3999 v4000 v4001 v4002 v4003 v4004 v4005
      v4006 v4007 v4008 v4009 v4010 v4011 v4015 v4019 v4023 v4027 v4031 v4035 v4039 (harg5.unread X) n,
      ∀ (y : pc.1.shape.Idx) (t : Fin 8192), pc.1.emb y = ix3 0 t l → pc.2 y = ((flow p ((x t - m) / s) : ℝ) : EReal) := by
  induction n with
  | zero => exact fun pc hpc => absurd hpc List.not_mem_nil
  | succ n ih =>
    intro pc hpc
    rw [show n + 1 = (⟨n, hn⟩ : Fin k0_t2_loop.trips).val + 1 from rfl, pb_k0_t2_succ] at hpc
    rcases List.mem_append.mp hpc with h | h
    · exact trip2 c i arg1 harg1 arg2 harg2 arg3 harg3 arg4 harg4 arg5 harg5 arg6 harg6 X ⟨n, hn⟩ p m s l x hw hs hx
        v4 v35 v3881 v3893 v3897 v3899 v3901 v3903 v3905 v3907 v3909 v3911 v3944 v3945 v3946 v3947 v3948 v3949 v3950
        v3951 v3954 v3956 v3958 v3960 v3962 v3964 v3966 v3968 v3971 v3972 v3973 v3974 v3975 v3976 v3977 v3978 v3979
        v3981 v3983 v3985 v3987 v3989 v3991 v3993 v3995 v3996 v3997 v3998 v3999 v4000 v4001 v4002 v4003 v4004 v4005
        v4006 v4007 v4008 v4009 v4010 v4011 v4015 v4019 v4023 v4027 v4031 v4035 v4039 hT pc h
    · exact ih (by omega) pc h

end Cert.KernelValue

end
-- ==== Proof.KernelBlock.lean ====
/- What the kernel writes for a block of its batch: at every row and lane, the flow of the column the lane holds. -/
module

public import proofs.«01_k».proof.Proof.KernelLoop
public import proofs.«01_k».proof.Proof.Gen.KernelIdeal.Frame

@[expose] public section

noncomputable section

namespace Cert.KernelValue

open Cert.KernelIdeal Cert.KernelIdeal.Gen Idealize.ShloMosaic Idealize.ShloMosaic.TcCoe Idealize.ShloMosaic.ValueIdx
open Idealize.ShloMosaic.Tactic Cert.Flow Cert.Lift

variable (c : Dev nD) (i : grid0.Coords) (arg1 : Memref sig .tc .smem S2x32 .f32) (harg1 : arg1.IsWhole)
  (arg2 : Memref sig .tc .smem S32 .f32) (harg2 : arg2.IsWhole) (arg3 : Memref sig .tc .smem S32x25 .f32) (harg3 : arg3.IsWhole)
  (arg4 : Memref sig .tc .smem S25 .f32) (harg4 : arg4.IsWhole) (arg5 : Memref sig .tc .vmem S1x8192x256 .f32) (harg5 : arg5.IsWhole)
  (arg6 : Memref sig .tc .vmem S1x8192x256 .f32) (harg6 : arg6.IsWhole) (x0 : Vec Ideal S2x32 .f32) (x1 : Vec Ideal S32 .f32)
  (x2 : Vec Ideal S32x25 .f32) (x3 : Vec Ideal S25 .f32) (X : Vec Ideal S1x8192x256 .f32)

/-- The output block at a row and lane, the lane's values being the real numbers `x`. -/
theorem out_block (N : Net) (hN : IsNet N x0 x1 x2 x3) (l : Fin 256) (x : Fin 8192 → ℝ)
    (hx : ∀ t, X (ix3 0 t l) = ((x t : ℝ) : EReal)) (t : Fin 8192) :
    out0_A_5 c i arg1 harg1 arg2 harg2 arg3 harg3 arg4 harg4 arg5 harg5 arg6 harg6 x0 x1 x2 x3 X (ix3 0 t l) = ((result N x t : ℝ) : EReal) := by
  have hc := cover0_A_5 c i arg1 harg1 arg2 harg2 arg3 harg3 arg4 harg4 arg5 harg5 arg6 harg6 x0 x1 x2 x3 X
  have hT := table_words c i arg1 harg1 arg2 harg2 arg3 harg3 arg4 harg4 arg5 harg5 arg6 harg6 x0 x1 x2 x3 X N hN l x hx
  have hp := pieces c i arg1 harg1 arg2 harg2 arg3 harg3 arg4 harg4 arg5 harg5 arg6 harg6 X 16 (le_refl _) (par N (skew x) (ekurt x)) (mean x) (dev x) l x (par_w_pos N _ _) (dev_pos x) hx
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hT
  unfold out0_A_5
  rw [View.read_writes_eq_canon _ _ _ hc]
  refine View.canon_eq_of_allAt _ _ _ (hc _) fun pc hpc y hy => ?_
  refine hp pc ?_ y t hy
  unfold kernelRun0_A at hpc
  exact hpc

end Cert.KernelValue

end
-- ==== Proof.KernelArray.lean ====
/- The kernel's result array. A point of the grid holds one batch entry: its block of the input is that entry, the four
   weight arrays are read whole, and what it writes back is that entry of the result. So the whole array is the flow of
   every column. -/
module

public import proofs.«01_k».proof.Proof.KernelBlock
public import proofs.«01_k».proof.Proof.Gen.KernelIdeal.Value
public import Idealize.ShloMosaic.Lib.Pipeline.ValueKit.Geometry

@[expose] public section

noncomputable section

namespace Cert.KernelValue

open Cert.KernelIdeal Cert.KernelIdeal.Gen Idealize.ShloMosaic Idealize.ShloMosaic.TcCoe Idealize.ShloMosaic.ValueIdx
open Cert.Flow

variable (m : (ℓ : Loc nD τ sig) → Buf (Elt Ideal) ℓ) (c : Dev nD)

/-- The block each window has at a point: the weight windows their only one, the two big windows the point's own. -/
theorem index_at : ∀ t : Fin cfg0.N,
    (win0_0.index t (0 : Fin 2) = 0 ∧ win0_0.index t (1 : Fin 2) = 0) ∧ win0_1.index t (0 : Fin 1) = 0
    ∧ (win0_2.index t (0 : Fin 2) = 0 ∧ win0_2.index t (1 : Fin 2) = 0) ∧ win0_3.index t (0 : Fin 1) = 0
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- A point's number is that of a batch entry. -/
theorem point_lt (t : Fin cfg0.N) : t.val < 8 := t.isLt

/-- The first weights' block at a point is the whole array. -/
theorem read0 (t : Fin cfg0.N) (j : S2x32.Idx) : iblk m c 0 t j = m ((c : Thread nD τ).loc main_arg1) j := by
  obtain ⟨⟨e0, e1⟩, -⟩ := index_at t
  have e : ((cfg0.win 0).blk t).view.emb j = j := by blk_ext [e0, e1]
  exact congrArg (V m c main_arg1) e

/-- The first offsets' block at a point is the whole array. -/
theorem read1 (t : Fin cfg0.N) (j : S32.Idx) : iblk m c 1 t j = m ((c : Thread nD τ).loc main_arg2) j := by
  obtain ⟨-, e0, -⟩ := index_at t
  have e : ((cfg0.win 1).blk t).view.emb j = j := by blk_ext [e0]
  exact congrArg (V m c main_arg2) e

/-- The second weights' block at a point is the whole array. -/
theorem read2 (t : Fin cfg0.N) (j : S32x25.Idx) : iblk m c 2 t j = m ((c : Thread nD τ).loc main_arg3) j := by
  obtain ⟨-, -, ⟨e0, e1⟩, -⟩ := index_at t
  have e : ((cfg0.win 2).blk t).view.emb j = j := by blk_ext [e0, e1]
  exact congrArg (V m c main_arg3) e

/-- The second offsets' block at a point is the whole array. -/
theorem read3 (t : Fin cfg0.N) (j : S25.Idx) : iblk m c 3 t j = m ((c : Thread nD τ).loc main_arg4) j := by
  obtain ⟨-, -, -, e0, -⟩ := index_at t
  have e : ((cfg0.win 3).blk t).view.emb j = j := by blk_ext [e0]
  exact congrArg (V m c main_arg4) e

/-- The input's block at a point is the point's batch entry. -/
theorem read4 (t : Fin cfg0.N) (j : S1x8192x256.Idx) :
    iblk m c 4 t j = m ((c : Thread nD τ).loc main_arg0) (ix3 (⟨t.val, point_lt t⟩ : Fin 8) (j 1) (j 2)) := by
  obtain ⟨-, -, -, -, ⟨e0, e1, e2⟩, -⟩ := index_at t
  have h0 : (j 0).val < 1 := (j 0).isLt
  have e : ((cfg0.win 4).blk t).view.emb j = ix3 (⟨t.val, point_lt t⟩ : Fin 8) (j 1) (j 2) := by blk_ext [e0, e1, e2]
  exact congrArg (V m c main_arg0) e

/-- The result's block at a point lies over the point's batch entry. -/
theorem place5 (t : Fin cfg0.N) (j : S1x8192x256.Idx) :
    ((cfg0.win 5).blk t).view.emb j = ix3 (⟨t.val, point_lt t⟩ : Fin 8) (j 1) (j 2) := by
  obtain ⟨-, -, -, -, -, e0, e1, e2⟩ := index_at t
  have h0 : (j 0).val < 1 := (j 0).isLt
  blk_ext [e0, e1, e2]

/-- THE KERNEL'S RESULT: every entry is the number its column's value becomes. -/
theorem array_eq (N : Net) (X : Fin 8 → Fin 256 → Fin 8192 → ℝ)
    (hN : IsNet N (m ((c : Thread nD τ).loc main_arg1)) (m ((c : Thread nD τ).loc main_arg2)) (m ((c : Thread nD τ).loc main_arg3))
      (m ((c : Thread nD τ).loc main_arg4)))
    (hX : ∀ b t l, m ((c : Thread nD τ).loc main_arg0) (ix3 b t l) = ((X b l t : ℝ) : EReal)) :
    (dats m 0 c).arrAt 5 cfg0.N = fun i : S8x8192x256.Idx => ((result N (X (i 0) (i 2)) (i 1) : ℝ) : EReal) := by
  refine (dats m 0 c).arrAt_eq_of_covers 5 _ (by decide +kernel) fun t _ y => ?_
  have hb : IsNet N (iblk m c 0 t) (iblk m c 1 t) (iblk m c 2 t) (iblk m c 3 t) :=
    ⟨fun a b => (read0 m c t _).trans (hN.W1_eq a b), fun a => (read1 m c t _).trans (hN.b1_eq a),
      fun a b => (read2 m c t _).trans (hN.W2_eq a b), fun a => (read3 m c t _).trans (hN.b2_eq a)⟩
  have hy : y = ix3 (0 : Fin 1) (y 1) (y 2) :=
    (eq_ix3 y).trans (congrArg (fun a => ix3 a (y 1) (y 2)) (Subsingleton.elim (α := Fin 1) _ _))
  have ho := out_block c (grid0.coords t) (ms0_0 t) (hs0_0 t) (ms0_1 t) (hs0_1 t) (ms0_2 t) (hs0_2 t) (ms0_3 t) (hs0_3 t)
    (ms0_4 t) (hs0_4 t) (ms0_5 t) (hs0_5 t) _ _ _ _ (iblk m c 4 t) N hb (y 2) (X ⟨t.val, point_lt t⟩ (y 2))
    (fun s => (read4 m c t _).trans (hX _ _ _)) (y 1)
  rw [place5 t y, after0_5]
  exact (congrArg (outsAt0 m c t) hy).trans ho

end Cert.KernelValue

end
-- ==== Proof.RefOps.lean ====
/- Array operations read at an index, for arrays that hold real numbers: a running sum along rows of eight, the
   greatest of a row, a count down a column of nine, and a row read at the column numbers another array holds. -/
module

public import Idealize.ShloMosaic.PureOps.Ideal
public import Idealize.ShloMosaic.PureOps.Ideal.Laws
public import Idealize.ShloMosaic.PureOps.Reduce
public import Idealize.ShloMosaic.Lib.ReduceAll
public import Idealize.ShloMosaic.Lib.ValueIdx
public import proofs.«01_k».proof.Proof.Lift

@[expose] public section

noncomputable section

namespace Cert.RefOps

open Idealize.ShloMosaic Idealize.ShloMosaic.ValueIdx Cert.Lift

/-- A left fold that adds is its start plus the sum of what it adds. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The window of eight entries that a running sum looks through. -/
abbrev Win : Shape := ⟨2, ![1, 8]⟩

/-- A window has one row. -/
theorem win_fst (n : Fin Win.numel) : (Win.rowMajor.symm n 0).val = 0 := by
  revert n; decide

/-- A window's places are numbered by their columns. -/
theorem win_snd (n : Fin Win.numel) : (Win.rowMajor.symm n 1).val = n.val := by
  revert n; decide

/-- The eight entries of a window that ends at entry `j`, what lies before the row being nothing. -/
theorem window_sum (w : Fin 8 → ℝ) (j : ℕ) (hj : j < 8) :
    ∑ n : Fin 8, (if h : 7 ≤ j + n.val then w ⟨j + n.val - 7, by omega⟩ else 0)
      = ∑ k : Fin 8, if k.val ≤ j then w k else 0 := by
  interval_cases j <;> simp [Fin.sum_univ_succ]

/-- A running sum along a row of eight reals. -/
theorem cumsum_row {R : ℕ} (x : FVec Ideal ⟨2, ![R, 8]⟩ .f32) (init : FVec Ideal ⟨0, ![]⟩ .f32)
    (hinit : ∀ i, init i = ((0 : ℝ) : EReal))
    (h : (⟨2, ![R, 8]⟩ : Shape).ReduceWindows (![1, 8] : Fin 2 → ℕ) ![1, 1] ![0, 7] ![0, 0] ⟨2, ![R, 8]⟩)
    (hu : 0 < (⟨0, ![]⟩ : Shape).numel) (r : Fin R) (j : Fin 8) (w : Fin 8 → ℝ)
    (hx : ∀ k, x (ix2 r k) = ((w k : ℝ) : EReal)) :
    Host.reduceWindowAdd ![1, 8] ![1, 1] ![0, 7] ![0, 0] x init h hu (ix2 r j)
      = ((∑ k : Fin 8, if k.val ≤ j.val then w k else 0 : ℝ) : EReal) := by
  have hg : ∀ n : Fin Win.numel,
      (if hin : ∀ a : Fin 2, (![0, 7] : Fin 2 → ℕ) a ≤ ((ix2 r j) a).val * (![1, 1] : Fin 2 → ℕ) a + (Win.rowMajor.symm n a).val
          ∧ ((ix2 r j) a).val * (![1, 1] : Fin 2 → ℕ) a + (Win.rowMajor.symm n a).val - (![0, 7] : Fin 2 → ℕ) a
            < (⟨2, ![R, 8]⟩ : Shape).size a
        then x (fun a => ⟨((ix2 r j) a).val * (![1, 1] : Fin 2 → ℕ) a + (Win.rowMajor.symm n a).val - (![0, 7] : Fin 2 → ℕ) a, (hin a).2⟩)
        else init (Shape.Idx.first hu))
      = (((if h : 7 ≤ j.val + n.val then w ⟨j.val + n.val - 7, by have := n.isLt; have : Win.numel = 8 := rfl; omega⟩ else 0) : ℝ) : EReal) := by
    intro n
    have hn : n.val < 8 := n.isLt
    have hj := j.isLt
    have h1 := win_snd n
    have h0 := win_fst n
    have e0 : ((ix2 r j) 0).val = r.val := rfl
    have e1 : ((ix2 r j) 1).val = j.val := rfl
    by_cases hle : 7 ≤ j.val + n.val
    · rw [dif_pos hle, dif_pos]
      · refine Eq.trans (congrArg x ?_) (hx _)
        funext a
        refine Fin.ext ?_
        match a with
        | ⟨0, _⟩ => show r.val * 1 + (Win.rowMajor.symm n 0).val - 0 = r.val; omega
        | ⟨1, _⟩ => show j.val * 1 + (Win.rowMajor.symm n 1).val - 7 = j.val + n.val - 7; omega
      · intro a
        match a with
        | ⟨0, _⟩ =>
          have := r.isLt
          show 0 ≤ r.val * 1 + (Win.rowMajor.symm n 0).val ∧ r.val * 1 + (Win.rowMajor.symm n 0).val - 0 < R
          omega
        | ⟨1, _⟩ =>
          show 7 ≤ j.val * 1 + (Win.rowMajor.symm n 1).val ∧ j.val * 1 + (Win.rowMajor.symm n 1).val - 7 < 8
          omega
    · rw [dif_neg hle, dif_neg]
      · exact hinit _
      · intro hin
        have h7 : 7 ≤ j.val * 1 + (Win.rowMajor.symm n 1).val := (hin 1).1
        omega
  rw [← window_sum w j.val j.isLt, ← sum_coe]
  rw [show Host.reduceWindowAdd ![1, 8] ![1, 1] ![0, 7] ![0, 0] x init h hu
    = Host.reduceWindow (fun a b : EReal => a + b) ![1, 8] ![1, 1] ![0, 7] ![0, 0] x
      (fun _ : (⟨0, ![]⟩ : Shape).Idx => init (Shape.Idx.first hu)) h (by decide) from rfl]
  unfold Host.reduceWindow
  rw [foldl_add]
  refine (congrArg₂ (fun a b : EReal => a + b) (hinit _) rfl).trans ?_
  rw [EReal.coe_zero, zero_add, ← Fin.sum_univ_def]
  exact Finset.sum_congr rfl fun n _ => hg n

/-- The greatest of finitely many reals, folded from minus infinity, is a real. -/
theorem fold_max_real {ι : Type} [DecidableEq ι] (f : ι → ℝ) (s : Finset ι) (hs : s.Nonempty) :
    ∃ M : ℝ, s.fold max (⊥ : EReal) (fun i => ((f i : ℝ) : EReal)) = ((M : ℝ) : EReal) := by
  induction hs using Finset.Nonempty.cons_induction with
  | singleton a => exact ⟨f a, by simp⟩
  | cons a s ha _ ih =>
    obtain ⟨M, hM⟩ := ih
    exact ⟨max (f a) M, by rw [Finset.fold_cons, hM, max_coe]⟩

/-- The greatest of a row of eight reals is a real. -/
theorem max_row {R : ℕ} (x : FVec Ideal ⟨2, ![R, 8]⟩ .f32) (init : FVec Ideal ⟨0, ![]⟩ .f32)
    (hinit : ∀ i, init i = (⊥ : EReal)) (h : (⟨2, ![R, 8]⟩ : Shape).Reduces [1] ⟨1, ![R]⟩)
    (h' : (⟨2, ![R, 8]⟩ : Shape).ReducesTo [1] ⟨1, ![R]⟩)
    (hu : 0 < (⟨0, ![]⟩ : Shape).numel) (r : Fin R) (w : Fin 8 → ℝ)
    (hx : ∀ k, x (ix2 r k) = ((w k : ℝ) : EReal)) :
    ∃ M : ℝ, Host.reduce (FloatOps.maximumf (F := Ideal) (φ := .f32)) x init h' hu (ix1 r) = ((M : ℝ) : EReal) := by
  obtain ⟨M, hM⟩ := fold_max_real w (Finset.univ : Finset (Fin 8)) ⟨0, Finset.mem_univ _⟩
  refine ⟨M, ?_⟩
  have e : x ∘ h.lift (ix1 r) = fun k : Fin 8 => ((w k : ℝ) : EReal) := by
    funext k
    exact (congrArg x (eq_ix2 _)).trans (hx k)
  show Host.reduce (max : EReal → EReal → EReal) x init h' hu (ix1 r) = _
  rw [Host.reduce_eq_fold_single (max : EReal → EReal → EReal) x init h' h hu, hinit, e]
  exact hM

/-- Adding words that hold naturals. -/
theorem fold_addi {ι : Type} [DecidableEq ι] (n : ι → ℕ) (s : Finset ι) :
    s.fold IntOp.addi (0#32) (fun i => BitVec.ofNat 32 (n i)) = BitVec.ofNat 32 (∑ i ∈ s, n i) := by
  induction s using Finset.induction_on with
  | empty => rfl
  | insert a s ha ih =>
    rw [Finset.fold_insert ha, ih, Finset.sum_insert ha, BitVec.ofNat_add]
    rfl

/-- The sum of nine words down a column. -/
theorem count_col {R C : ℕ} (x : IVec ⟨3, ![R, 9, C]⟩ 32) (init : IVec ⟨0, ![]⟩ 32) (hinit : ∀ i, init i = 0#32)
    (h : (⟨3, ![R, 9, C]⟩ : Shape).Reduces [1] ⟨2, ![R, C]⟩) (h' : (⟨3, ![R, 9, C]⟩ : Shape).ReducesTo [1] ⟨2, ![R, C]⟩)
    (hu : 0 < (⟨0, ![]⟩ : Shape).numel) (r : Fin R) (t : Fin C) (n : Fin 9 → ℕ)
    (hx : ∀ k, x (ix3 r k t) = BitVec.ofNat 32 (n k)) :
    Host.reduce IntOp.addi x init h' hu (ix2 r t) = BitVec.ofNat 32 (∑ k, n k) := by
  have e : x ∘ h.lift (ix2 r t) = fun k : Fin 9 => BitVec.ofNat 32 (n k) := by
    funext k
    exact (congrArg x (eq_ix3 _)).trans (hx k)
  rw [Host.reduce_eq_fold_single IntOp.addi x init h' h hu, hinit, e]
  exact fold_addi n Finset.univ

/-! ## A row read at column numbers -/

/-- The dimension numbers of a read of `[R, N]` along its rows, at the column numbers an `[R, C, 1]` array holds. -/
abbrev rowDims (R N C : ℕ)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- A word that holds a small natural, read as an integer. -/
theorem word_toInt {k : ℕ} (h : k < 2 ^ 31) : (BitVec.ofNat 32 k).toInt = (k : ℤ) := by
  rw [BitVec.toInt_eq_toNat_of_lt (by rw [BitVec.toNat_ofNat]; omega), BitVec.toNat_ofNat, Nat.mod_eq_of_lt (by omega)]

/-- Where the column number at `(r, t)` is `k`, the read gives entry `(r, k)`. -/
theorem gather_row_at {α : Type} {R N C : ℕ} (hN : N ≤ 2 ^ 31)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ 32) (r : Fin R) (t : Fin C) (k : Fin N)
    (hk : idx (ix3 r t 0) = BitVec.ofNat 32 k.val) :
    Host.gather (rowDims R N C wf) x idx (ix2 r t) = x (ix2 r k) := by
  have hkN := k.isLt
  have hrow : (0 : Fin 2) ∈ (rowDims R N C wf).operandBatchingDims := List.mem_singleton.2 rfl
  have hcol : (1 : Fin 2) ∈ (rowDims R N C wf).startIndexMap := List.mem_singleton.2 rfl
  refine congrArg x (funext fun a => Fin.ext ?_)
  show (rowDims R N C wf).start (ix2 r t) idx a + (rowDims R N C wf).batchCoord (ix2 r t) a
    + (rowDims R N C wf).offCoord (ix2 r t) a = _
  match a with
  | ⟨0, _⟩ =>
    show (rowDims R N C wf).start (ix2 r t) idx 0 + (rowDims R N C wf).batchCoord (ix2 r t) 0
      + (rowDims R N C wf).offCoord (ix2 r t) 0 = r.val
    have h1 := (rowDims R N C wf).start_batching (ix2 r t) idx 0 hrow
    have h2 : (rowDims R N C wf).offCoord (ix2 r t) 0 = 0 :=
      GatherDims.offCoord_eq_zero _ _ _ (fun h => ((GatherDims.mem_sKept _ _).1 h).2 hrow)
    have h3 : (rowDims R N C wf).batchCoord (ix2 r t) 0 = r.val := by
      unfold GatherDims.batchCoord
      rw [dif_pos hrow]
      rfl
    omega
  | ⟨1, _⟩ =>
    show (rowDims R N C wf).start (ix2 r t) idx 1 + (rowDims R N C wf).batchCoord (ix2 r t) 1
      + (rowDims R N C wf).offCoord (ix2 r t) 1 = k.val
    have h2 : (rowDims R N C wf).offCoord (ix2 r t) 1 = 0 :=
      GatherDims.offCoord_eq_zero _ _ _ (fun h => ((GatherDims.mem_sKept _ _).1 h).1 (List.mem_singleton.2 rfl))
    have h3 : (rowDims R N C wf).batchCoord (ix2 r t) 1 = 0 :=
      GatherDims.batchCoord_eq_zero _ _ _ (fun h => by simp at h)
    have h1 : (rowDims R N C wf).start (ix2 r t) idx 1 = min (idx (ix3 r t 0)).toInt.toNat (N - 1) := by
      unfold GatherDims.start
      rw [dif_pos hcol]
      refine congrArg (fun q => min (idx q).toInt.toNat (N - 1)) (funext fun b => Fin.ext ?_)
      match b with
      | ⟨0, _⟩ => rfl
      | ⟨1, _⟩ => rfl
      | ⟨2, _⟩ => rfl
    rw [hk, word_toInt (by omega)] at h1
    omega

/-- A column number that is not negative is not counted from the row's end. -/
theorem wrap_word {k : ℕ} (hk : k < 2 ^ 31) (n : BitVec 32) :
    Scalar.select (IntOp.cmpi .slt (BitVec.ofNat 32 k) 0#32) (IntOp.addi (BitVec.ofNat 32 k) n) (BitVec.ofNat 32 k)
      = BitVec.ofNat 32 k := by
  have : IntOp.cmpi .slt (BitVec.ofNat 32 k) 0#32 = 0#1 := by
    show BitVec.ofBool ((BitVec.ofNat 32 k).slt 0#32) = 0#1
    have h : (BitVec.ofNat 32 k).slt 0#32 = false := by
      rw [BitVec.slt, word_toInt hk]
      simp
    rw [h]; rfl
  rw [this]
  exact select_zero _ _

/-- A column number in its range passes both bounds. -/
theorem in_range {k b : ℕ} (hb : b < 2 ^ 31) (hk : k ≤ b) :
    IntOp.andi (IntOp.cmpi .sge (BitVec.ofNat 32 k) 0#32) (IntOp.cmpi .sle (BitVec.ofNat 32 k) (BitVec.ofNat 32 b)) = 1#1 := by
  have h1 : (0#32 : BitVec 32).sle (BitVec.ofNat 32 k) = true := by
    exact decide_eq_true (by rw [word_toInt (k := k) (by omega)]; exact Int.natCast_nonneg k)
  have h2 : (BitVec.ofNat 32 k).sle (BitVec.ofNat 32 b) = true := by
    exact decide_eq_true (by rw [word_toInt (by omega), word_toInt hb]; exact Int.ofNat_le.2 hk)
  show IntOp.andi (BitVec.ofBool ((0#32 : BitVec 32).sle (BitVec.ofNat 32 k))) (BitVec.ofBool ((BitVec.ofNat 32 k).sle (BitVec.ofNat 32 b))) = 1#1
  rw [h1, h2]; rfl

/-- A word clamped between zero and `b` holds a natural no greater than `b`. -/
theorem clamp_word (b : ℕ) (hb : b < 2 ^ 31) (v : BitVec 32) :
    ∃ k, k ≤ b ∧ IntOp.minsi (BitVec.ofNat 32 b) (IntOp.maxsi 0#32 v) = BitVec.ofNat 32 k := by
  have h1 : ∃ m, m < 2 ^ 31 ∧ IntOp.maxsi 0#32 v = BitVec.ofNat 32 m := by
    unfold IntOp.maxsi
    split
    · exact ⟨0, by omega, rfl⟩
    · next h =>
      refine ⟨v.toNat, ?_, by rw [BitVec.ofNat_toNat, BitVec.setWidth_eq]⟩
      have h0 : ¬ v.toInt < 0 := fun c => h (decide_eq_true c)
      have hv := v.isLt
      rw [BitVec.toInt_eq_toNat_cond] at h0
      by_contra hc
      rw [if_neg (by omega)] at h0
      omega
  obtain ⟨m, hm, e⟩ := h1
  rw [e]
  unfold IntOp.minsi
  split
  · exact ⟨b, le_rfl, rfl⟩
  · next h =>
    refine ⟨m, ?_, rfl⟩
    by_contra hc
    exact h (decide_eq_true (by rw [word_toInt hb, word_toInt hm]; omega))

/-- The bin a count of knots names: one less, between zero and seven. -/
theorem bin_word (c : ℕ) (hc : c ≤ 9) :
    IntOp.minsi 7#32 (IntOp.maxsi 0#32 (IntOp.subi (BitVec.ofNat 32 c) 1#32)) = BitVec.ofNat 32 (min (c - 1) 7) := by
  interval_cases c <;> decide

/-- The column after a bin's. -/
theorem next_word (k : ℕ) (hk : k ≤ 7) :
    IntOp.minsi 8#32 (IntOp.addi (BitVec.ofNat 32 k) 1#32) = BitVec.ofNat 32 (k + 1) := by
  interval_cases k <;> decide

/-- The read along rows as it is written out: the column numbers of `idx` made non-negative (`v5`), each compared with
    its bounds (`v11`), the entry read where all of them pass. Where every column number is in range the entry at
    `(r, t)` is the row's entry at the column number there. -/
theorem take_row {R N C : ℕ} (b : ℕ) (hNb : N = b + 1) (hb : b < 2 ^ 31) (wf) (n : BitVec 32) (x : FVec Ideal ⟨2, ![R, N]⟩ .f32)
    (idx : IVec ⟨2, ![R, C]⟩ 32) (v5 : IVec ⟨3, ![R, C, 1]⟩ 32) (v11 : IVec ⟨3, ![R, C, 1]⟩ 1)
    (hidx : ∀ i, ∃ k, k ≤ b ∧ idx i = BitVec.ofNat 32 k)
    (h5 : ∀ (r : Fin R) (t : Fin C) (u : Fin 1), v5 (ix3 r t u) = Scalar.select (IntOp.cmpi .slt (idx (ix2 r t)) 0#32)
      (IntOp.addi (idx (ix2 r t)) n) (idx (ix2 r t)))
    (h11 : ∀ j, v11 j = IntOp.andi (IntOp.cmpi .sge (v5 j) 0#32) (IntOp.cmpi .sle (v5 j) (BitVec.ofNat 32 b)))
    (init : IVec ⟨0, ![]⟩ 1) (hinit : ∀ i, init i = 1#1)
    (h : (⟨3, ![R, C, 1]⟩ : Shape).ReducesTo [2] ⟨2, ![R, C]⟩) (hu : 0 < (⟨0, ![]⟩ : Shape).numel)
    (r : Fin R) (t : Fin C) (k : Fin N) (hk : idx (ix2 r t) = BitVec.ofNat 32 k.val) (other : EReal) :
    Scalar.select (Host.reduce IntOp.andi v11 init h hu (ix2 r t)) (Host.gather (rowDims R N C wf) x v5 (ix2 r t)) other
      = x (ix2 r k) := by
  have e5 : ∀ (r : Fin R) (t : Fin C) (u : Fin 1), v5 (ix3 r t u) = idx (ix2 r t) := by
    intro r t u
    obtain ⟨m, hm, e⟩ := hidx (ix2 r t)
    rw [h5, e, wrap_word (by omega)]
  have e11 : ∀ j, v11 j = 1#1 := by
    intro j
    obtain ⟨m, hm, e⟩ := hidx (ix2 (j 0) (j 1))
    have e' : v5 j = BitVec.ofNat 32 m := ((congrArg v5 (eq_ix3 j)).trans (e5 (j 0) (j 1) (j 2))).trans e
    rw [h11, e', in_range hb hm]
  rw [Host.reduce_andi_one v11 init h hu _ (hinit _) e11, select_one]
  exact gather_row_at (by omega) wf x v5 r t k ((e5 r t 0).trans hk)

end Cert.RefOps

end
-- ==== Proof.RefStats.lean ====
/- The reference's statistics: at the ideal numbers, for arrays that hold real numbers, each column's mean, deviation,
   standardized values, skewness and excess kurtosis are those of the column (Spec.lean). -/
module

public import proofs.«01_k».proof.Proof.RefOps
public import proofs.«01_k».proof.Proof.Gen.ReferenceIdeal.Read

@[expose] public section

noncomputable section

namespace Cert.RefValue

open Cert.ReferenceIdeal Cert.ReferenceIdeal.Gen Cert.ReferenceIdeal.Read Idealize.ShloMosaic Idealize.ShloMosaic.TcCoe
open Idealize.ShloMosaic.ValueIdx Cert.Flow Cert.Lift Cert.RefOps

/-- The five arrays hold real numbers: the columns `X` and the network `N`. -/
structure Holds (X : Fin 8 → Fin 256 → Fin 8192 → ℝ) (N : Net) (x0 : Vec Ideal S8x8192x256 .f32) (x1 : Vec Ideal S2x32 .f32)
    (x2 : Vec Ideal S32 .f32) (x3 : Vec Ideal S32x25 .f32) (x4 : Vec Ideal S25 .f32) : Prop where
  x_eq : ∀ i, x0 i = ((X (i 0) (i 2) (i 1) : ℝ) : EReal)
  W1_eq : ∀ i, x1 i = ((N.W1 (i 0) (i 1) : ℝ) : EReal)
  b1_eq : ∀ i, x2 i = ((N.b1 (i 0) : ℝ) : EReal)
  W2_eq : ∀ i, x3 i = ((N.W2 (i 0) (i 1) : ℝ) : EReal)
  b2_eq : ∀ i, x4 i = ((N.b2 (i 0) : ℝ) : EReal)

variable {X : Fin 8 → Fin 256 → Fin 8192 → ℝ} {x0 : Vec Ideal S8x8192x256 .f32}
  (hx : ∀ i, x0 i = ((X (i 0) (i 2) (i 1) : ℝ) : EReal))

include hx

/-- The mean. -/
theorem v3_eq (i : S8x1x256.Idx) : val_main_v3 (F := Ideal) x0 i = ((mean (X (i 0) (i 2)) : ℝ) : EReal) := by
  rw [val_main_v3_apply, val_main_v1_apply, val_main_v2_apply, val_main_v0_apply, val_main_cst_apply, val_main_cst_0_apply]
  simp only [hx, Ideal.ofBits_def, Ideal.hostDivf_def, ofBits_0, ofBits_8192, sum_coe]
  rw [EReal.coe_zero, zero_add, div_coe _ _ (by norm_num)]
  rfl

/-- The same mean, in the variance. -/
theorem call0_v3_eq (i : S8x1x256.Idx) :
    val_main_call0_call0_v3 (F := Ideal) x0 i = ((mean (X (i 0) (i 2)) : ℝ) : EReal) :=
  v3_eq hx i

/-- The squared distances from the mean. -/
theorem call0_v6_eq (i : S8x8192x256.Idx) :
    val_main_call0_call0_v6 (F := Ideal) x0 i = (((X (i 0) (i 2) (i 1) - mean (X (i 0) (i 2))) ^ 2 : ℝ) : EReal) := by
  rw [val_main_call0_call0_v6_apply, val_main_call0_call0_v5_apply, val_main_call0_call0_v4_apply, call0_v3_eq hx, hx]
  simp only [Ideal.mulf_def, Ideal.subf_def]
  rw [← EReal.coe_sub, ← EReal.coe_mul, pow_two]
  rfl

omit hx in
/-- The variance's divisor. -/
theorem call0_v8_eq (i : S_.Idx) : val_main_call0_call0_v8 (F := Ideal) i = ((8191 : ℝ) : EReal) := by
  rw [val_main_call0_call0_v8_apply, val_main_call0_call0_cst_1_apply, val_main_call0_call0_v7_apply, val_main_c_apply]
  simp only [Ideal.ofBits_def, Ideal.subf_def, ofBits_8192]
  have e : FloatOps.sitofp (F := Ideal) .f32 (1#32) = ((1 : ℝ) : EReal) := by
    show (((1#32 : BitVec 32).toInt : ℝ) : EReal) = _
    norm_num
  rw [e, ← EReal.coe_sub]
  norm_num

/-- The deviation. -/
theorem v5_eq (i : S8x1x256.Idx) : val_main_v5 (F := Ideal) x0 i = ((dev (X (i 0) (i 2)) : ℝ) : EReal) := by
  have h12 : val_main_call0_call0_v12 (F := Ideal) x0 i
      = (((∑ t, (X (i 0) (i 2) t - mean (X (i 0) (i 2))) ^ 2) / 8191 : ℝ) : EReal) := by
    rw [val_main_call0_call0_v12_apply, val_main_call0_call0_v10_apply, val_main_call0_call0_v11_apply, call0_v8_eq,
      val_main_call0_call0_v9_apply, val_main_call0_call0_cst_2_apply]
    simp only [call0_v6_eq hx, Ideal.ofBits_def, Ideal.hostDivf_def, ofBits_0, sum_coe]
    rw [EReal.coe_zero, zero_add, div_coe _ _ (by norm_num)]
    rfl
  have hsel : val_main_call0_v0 (F := Ideal) x0 i = val_main_call0_call0_v12 (F := Ideal) x0 i := by
    have hc : ∀ k : S_.Idx, val_main_call0_call0_v13 (F := Ideal) k = 1#1 := by
      intro k
      rw [val_main_call0_call0_v13_apply, call0_v8_eq, val_main_call0_call0_cst_3_apply]
      simp only [Ideal.ofBits_def, ofBits_0, Ideal.cmpf_def]
      show BitVec.ofBool (decide (((0 : ℝ) : EReal) < ((8191 : ℝ) : EReal))) = 1#1
      rw [decide_eq_true (EReal.coe_lt_coe_iff.2 (by norm_num))]
      rfl
    unfold val_main_call0_v0
    rw [select_apply]
    refine (congrArg (fun c => Scalar.select c _ _) (hc _)).trans (select_one _ _)
  rw [val_main_v5_apply, val_main_v4_apply, hsel, h12, val_main_call1_v1_apply, val_main_call1_v0_apply, val_main_cst_1_apply]
  simp only [Ideal.ofBits_def, Ideal.maximumf_def, ofBits_sigMin]
  rw [show FloatOps.hostUnary (F := Ideal) (φ := .f32) .sqrt _ = Ideal.sqrt _ from rfl, sqrt_coe _ (by positivity), max_coe, max_comm]
  rfl

/-- The standardized values. -/
theorem v9_eq (i : S8x8192x256.Idx) :
    val_main_v9 (F := Ideal) x0 i = ((std (X (i 0) (i 2)) (i 1) : ℝ) : EReal) := by
  rw [val_main_v9_apply, val_main_v7_apply, val_main_v6_apply, val_main_v8_apply, v3_eq hx, v5_eq hx, hx]
  simp only [Ideal.hostDivf_def, Ideal.subf_def]
  rw [← EReal.coe_sub, div_coe _ _ (dev_pos _).ne']
  rfl

/-- The skewness. -/
theorem v14_eq (i : S8x256.Idx) : val_main_v14 (F := Ideal) x0 i = ((skew (X (i 0) (i 1)) : ℝ) : EReal) := by
  have h11 : ∀ j, val_main_v11 (F := Ideal) x0 j = ((std (X (j 0) (j 2)) (j 1) ^ 3 : ℝ) : EReal) := by
    intro j
    rw [val_main_v11_apply, val_main_v10_apply, v9_eq hx]
    simp only [Ideal.mulf_def]
    rw [← EReal.coe_mul, ← EReal.coe_mul]
    exact congrArg _ (by ring)
  rw [val_main_v14_apply, val_main_v12_apply, val_main_v13_apply, val_main_cst_2_apply, val_main_cst_3_apply]
  simp only [h11, Ideal.ofBits_def, Ideal.hostDivf_def, ofBits_0, ofBits_8192, sum_coe]
  rw [EReal.coe_zero, zero_add, div_coe _ _ (by norm_num)]
  rfl

/-- The excess kurtosis. -/
theorem v21_eq (i : S8x256.Idx) : val_main_v21 (F := Ideal) x0 i = ((ekurt (X (i 0) (i 1)) : ℝ) : EReal) := by
  have h16 : ∀ j, val_main_v16 (F := Ideal) x0 j = ((std (X (j 0) (j 2)) (j 1) ^ 4 : ℝ) : EReal) := by
    intro j
    rw [val_main_v16_apply, val_main_v15_apply, v9_eq hx]
    simp only [Ideal.mulf_def]
    rw [← EReal.coe_mul, ← EReal.coe_mul]
    exact congrArg _ (by ring)
  rw [val_main_v21_apply, val_main_v19_apply, val_main_v17_apply, val_main_v18_apply, val_main_v20_apply,
    val_main_cst_4_apply, val_main_cst_5_apply, val_main_cst_6_apply]
  simp only [h16, Ideal.ofBits_def, Ideal.hostDivf_def, Ideal.subf_def, ofBits_0, ofBits_8192, ofBits_3, sum_coe]
  rw [EReal.coe_zero, zero_add, div_coe _ _ (by norm_num), ← EReal.coe_sub]
  rfl

/-- The batch element of row `n`. -/
abbrev rowB (n : Fin 2048) : Fin 8 := ⟨n.val / 256, by omega⟩
/-- The channel of row `n`. -/
abbrev rowL (n : Fin 2048) : Fin 256 := ⟨n.val % 256, by omega⟩

/-- The two statistics, one pair a row. -/
theorem v25_eq (i : S2048x2.Idx) :
    val_main_v25 (F := Ideal) x0 i
      = (((if (i 1).val = 0 then skew (X (rowB (i 0)) (rowL (i 0))) else ekurt (X (rowB (i 0)) (rowL (i 0)))) : ℝ) : EReal) := by
  have h0 : (i 0).val < 2048 := (i 0).isLt
  have h1 : (i 1).val < 2 := (i 1).isLt
  have e0 : ((idx_main_v25 i) 0).val = (i 0).val / 256 := by
    show ((i 0).val * 2 + (i 1).val) / 512 = _
    omega
  have e1 : ((idx_main_v25 i) 1).val = (i 0).val % 256 := by
    show ((i 0).val * 2 + (i 1).val) / 2 % 256 = _
    omega
  have e2 : ((idx_main_v25 i) 2).val = (i 1).val := by
    show ((i 0).val * 2 + (i 1).val) % 2 = _
    omega
  rw [val_main_v25_apply]
  unfold val_main_v24
  by_cases h : (i 1).val = 0
  · rw [if_pos h]
    refine (concatenate_pair_apply_left (t := S8x256x2) (s₁ := S8x256x1) (s₂ := S8x256x1) 2 (val_main_v22 (F := Ideal) x0)
      (val_main_v23 (F := Ideal) x0) concatenates_S8x256x1_S8x256x1_S8x256x2_d2 (idx_main_v25 i) rfl (ix3 (rowB (i 0)) (rowL (i 0)) (0 : Fin 1)) ?_).trans ?_
    · intro a
      match a with
      | ⟨0, _⟩ => exact e0.symm
      | ⟨1, _⟩ => exact e1.symm
      | ⟨2, _⟩ => exact (e2.trans h).symm
    · rw [val_main_v22_apply, v14_eq hx]; rfl
  · rw [if_neg h]
    refine (concatenate_pair_apply_right (t := S8x256x2) (s₁ := S8x256x1) (s₂ := S8x256x1) 2 (val_main_v22 (F := Ideal) x0)
      (val_main_v23 (F := Ideal) x0) concatenates_S8x256x1_S8x256x1_S8x256x2_d2 (idx_main_v25 i) rfl rfl (ix3 (rowB (i 0)) (rowL (i 0)) (0 : Fin 1)) ?_ ?_).trans ?_
    · intro a ha
      match a with
      | ⟨0, _⟩ => exact e0.symm
      | ⟨1, _⟩ => exact e1.symm
      | ⟨2, _⟩ => exact absurd rfl ha
    · show 0 + 1 = ((idx_main_v25 i) 2).val
      omega
    · rw [val_main_v23_apply, v21_eq hx]; rfl

end Cert.RefValue

end
-- ==== Proof.RefPar.lean ====
/- The reference's spline, one row a column: the network's outputs, the widths, heights and slopes made of them, the
   knots, and what the reference takes back from the knots. -/
module

public import proofs.«01_k».proof.Proof.RefStats

@[expose] public section

noncomputable section

namespace Cert.RefValue

open Cert.ReferenceIdeal Cert.ReferenceIdeal.Gen Cert.ReferenceIdeal.Read Idealize.ShloMosaic Idealize.ShloMosaic.TcCoe
open Idealize.ShloMosaic.ValueIdx Cert.Flow Cert.Lift Cert.RefOps

variable {X : Fin 8 → Fin 256 → Fin 8192 → ℝ} {N : Net} {x0 : Vec Ideal S8x8192x256 .f32} {x1 : Vec Ideal S2x32 .f32}
  {x2 : Vec Ideal S32 .f32} {x3 : Vec Ideal S32x25 .f32} {x4 : Vec Ideal S25 .f32}

/-- The column of a row. -/
abbrev rowX (X : Fin 8 → Fin 256 → Fin 8192 → ℝ) (n : Fin 2048) : Fin 8192 → ℝ := X (rowB n) (rowL n)

/-- The network's outputs at a row. -/
abbrev rowRaw (X : Fin 8 → Fin 256 → Fin 8192 → ℝ) (N : Net) (n : Fin 2048) : Fin 25 → ℝ :=
  raw N (skew (rowX X n)) (ekurt (rowX X n))

/-- The spline of a row. -/
abbrev rowPar (X : Fin 8 → Fin 256 → Fin 8192 → ℝ) (N : Net) (n : Fin 2048) : Par :=
  par N (skew (rowX X n)) (ekurt (rowX X n))

variable (H : Holds X N x0 x1 x2 x3 x4)

include H

/-- The hidden units. -/
theorem v30_eq (i : S2048x32.Idx) : val_main_v30 (F := Ideal) x0 x1 x2 i
    = ((hid N (skew (rowX X (i 0))) (ekurt (rowX X (i 0))) (i 1) : ℝ) : EReal) := by
  rw [val_main_v30_apply, val_main_v29_apply, val_main_v26_apply, val_main_v28_apply, val_main_v27_apply,
    val_main_call2_v0_apply, val_main_call2_cst_apply, Fin.sum_univ_two]
  simp only [v25_eq H.x_eq, H.W1_eq, H.b1_eq, Ideal.ofBits_def, ofBits_0, Ideal.maximumf_def, Ideal.addf_def, ← EReal.coe_mul,
    ← EReal.coe_add, max_coe]
  rfl

/-- The network's outputs. -/
theorem v34_eq (i : S2048x25.Idx) :
    val_main_v34 (F := Ideal) x0 x1 x2 x3 x4 i = ((rowRaw X N (i 0) (i 1) : ℝ) : EReal) := by
  rw [val_main_v34_apply, val_main_v31_apply, val_main_v33_apply, val_main_v32_apply]
  simp only [v30_eq H, H.W2_eq, H.b2_eq, Ideal.addf_def, ← EReal.coe_mul, sum_coe, ← EReal.coe_add]
  rfl

/-- The widths. -/
theorem v48_eq (i : S2048x8.Idx) :
    val_main_v48 (F := Ideal) x0 x1 x2 x3 x4 i = (((rowPar X N (i 0)).w (i 1) : ℝ) : EReal) := by
  have h35 : ∀ j, val_main_v35 (F := Ideal) x0 x1 x2 x3 x4 j
      = ((rowRaw X N (j 0) ⟨(j 1).val, (j 1).isLt.trans (by decide)⟩ : ℝ) : EReal) := by
    intro j
    rw [val_main_v35_apply, v34_eq H]
    rfl
  obtain ⟨M, hM⟩ := max_row (val_main_v35 (F := Ideal) x0 x1 x2 x3 x4) (val_main_cst_7 (F := Ideal)) (fun _ => ofBits_negInf)
    (by decide) reducesTo_S2048x8_S2048_d1 h_S_ (i 0) _ (fun k => h35 (ix2 (i 0) k))
  have h38 : ∀ j : S2048.Idx, j 0 = i 0 → val_main_v38 (F := Ideal) x0 x1 x2 x3 x4 j = ((M : ℝ) : EReal) := by
    intro j hj
    rw [val_main_v38_apply, val_main_v37_apply, val_main_cst_8_apply]
    simp only [Ideal.ofBits_def, ofBits_negInf, Ideal.maximumf_def]
    rw [max_eq_right bot_le, eq_ix1 j, hj]
    exact hM
  have h42 : ∀ j : S2048x8.Idx, j 0 = i 0 → val_main_v42 (F := Ideal) x0 x1 x2 x3 x4 j
      = ((Real.exp (rowRaw X N (i 0) ⟨(j 1).val, (j 1).isLt.trans (by decide)⟩ - M) : ℝ) : EReal) := by
    intro j hj
    rw [val_main_v42_apply, val_main_v41_apply, h35, val_main_v40_apply, val_main_v39_apply, h38 _ hj, hj]
    rfl
  have h43 : ∀ j : S2048.Idx, j 0 = i 0 → val_main_v43 (F := Ideal) x0 x1 x2 x3 x4 j
      = ((∑ k : Fin 8, Real.exp (rowRaw X N (i 0) ⟨k.val, k.isLt.trans (by decide)⟩ - M) : ℝ) : EReal) := by
    intro j hj
    rw [val_main_v43_apply, val_main_cst_9_apply]
    simp only [Ideal.ofBits_def, ofBits_0]
    rw [EReal.coe_zero, zero_add, ← sum_coe]
    exact Finset.sum_congr rfl fun k _ => h42 (idx_main_v43 j k) hj
  rw [val_main_v48_apply, val_main_v46_apply, h42 i rfl, val_main_v45_apply, val_main_v44_apply, h43 _ rfl, val_main_v47_apply,
    val_main_cst_10_apply]
  simp only [Ideal.ofBits_def, ofBits_10, Ideal.hostDivf_def, Ideal.mulf_def]
  rw [div_coe _ _ (Finset.sum_pos (fun k _ => Real.exp_pos _) ⟨0, Finset.mem_univ _⟩).ne', ← EReal.coe_mul]
  exact congrArg _ (share_shift (fun k : Fin 8 => rowRaw X N (i 0) ⟨k.val, k.isLt.trans (by decide)⟩) M (i 1))

/-- The heights. -/
theorem v62_eq (i : S2048x8.Idx) :
    val_main_v62 (F := Ideal) x0 x1 x2 x3 x4 i = (((rowPar X N (i 0)).h (i 1) : ℝ) : EReal) := by
  have h49 : ∀ j, val_main_v49 (F := Ideal) x0 x1 x2 x3 x4 j
      = ((rowRaw X N (j 0) ⟨8 + (j 1).val, by have h : (j 1).val < 8 := (j 1).isLt; omega⟩ : ℝ) : EReal) := by
    intro j
    rw [val_main_v49_apply, v34_eq H]
    rfl
  obtain ⟨M, hM⟩ := max_row (val_main_v49 (F := Ideal) x0 x1 x2 x3 x4) (val_main_cst_11 (F := Ideal)) (fun _ => ofBits_negInf)
    (by decide) reducesTo_S2048x8_S2048_d1 h_S_ (i 0) _ (fun k => h49 (ix2 (i 0) k))
  have h52 : ∀ j : S2048.Idx, j 0 = i 0 → val_main_v52 (F := Ideal) x0 x1 x2 x3 x4 j = ((M : ℝ) : EReal) := by
    intro j hj
    rw [val_main_v52_apply, val_main_v51_apply, val_main_cst_12_apply]
    simp only [Ideal.ofBits_def, ofBits_negInf, Ideal.maximumf_def]
    rw [max_eq_right bot_le, eq_ix1 j, hj]
    exact hM
  have h56 : ∀ j : S2048x8.Idx, j 0 = i 0 → val_main_v56 (F := Ideal) x0 x1 x2 x3 x4 j
      = ((Real.exp (rowRaw X N (i 0) ⟨8 + (j 1).val, by have h : (j 1).val < 8 := (j 1).isLt; omega⟩ - M) : ℝ) : EReal) := by
    intro j hj
    rw [val_main_v56_apply, val_main_v55_apply, h49, val_main_v54_apply, val_main_v53_apply, h52 _ hj, hj]
    rfl
  have h57 : ∀ j : S2048.Idx, j 0 = i 0 → val_main_v57 (F := Ideal) x0 x1 x2 x3 x4 j
      = ((∑ k : Fin 8, Real.exp (rowRaw X N (i 0) ⟨8 + k.val, by omega⟩ - M) : ℝ) : EReal) := by
    intro j hj
    rw [val_main_v57_apply, val_main_cst_13_apply]
    simp only [Ideal.ofBits_def, ofBits_0]
    rw [EReal.coe_zero, zero_add, ← sum_coe]
    exact Finset.sum_congr rfl fun k _ => h56 (idx_main_v57 j k) hj
  rw [val_main_v62_apply, val_main_v60_apply, h56 i rfl, val_main_v59_apply, val_main_v58_apply, h57 _ rfl, val_main_v61_apply,
    val_main_cst_14_apply]
  simp only [Ideal.ofBits_def, ofBits_10, Ideal.hostDivf_def, Ideal.mulf_def]
  rw [div_coe _ _ (Finset.sum_pos (fun k _ => Real.exp_pos _) ⟨0, Finset.mem_univ _⟩).ne', ← EReal.coe_mul]
  exact congrArg _ (share_shift (fun k : Fin 8 => rowRaw X N (i 0) ⟨8 + k.val, by omega⟩) M (i 1))

/-- The slopes. -/
theorem v66_eq (i : S2048x9.Idx) :
    val_main_v66 (F := Ideal) x0 x1 x2 x3 x4 i = (((rowPar X N (i 0)).d (i 1) : ℝ) : EReal) := by
  obtain ⟨r, hr, hd⟩ : ∃ r : ℝ, val_main_v63 (F := Ideal) x0 x1 x2 x3 x4 i = ((r : ℝ) : EReal)
      ∧ (rowPar X N (i 0)).d (i 1) = Flow.slope r :=
    ⟨_, (val_main_v63_apply (F := Ideal) x0 x1 x2 x3 x4 i).trans (v34_eq H _), rfl⟩
  have h3 : val_main_call3_v3 (F := Ideal) x0 x1 x2 x3 x4 i = ((r : ℝ) : EReal) := by
    rw [val_main_call3_v3_apply, hr, val_main_call3_v2_apply, val_main_call3_cst_apply]
    simp only [Ideal.ofBits_def, ofBits_0, Ideal.subf_def, ← EReal.coe_sub, sub_zero]
  have h4 : val_main_call3_v4 (F := Ideal) x0 x1 x2 x3 x4 i = 0#1 := by
    rw [val_main_call3_v4_apply, h3]
    show BitVec.ofBool (decide (((r : ℝ) : EReal) ≠ ((r : ℝ) : EReal))) = 0#1
    simp
  have h10 : val_main_call3_v10 (F := Ideal) x0 x1 x2 x3 x4 i = ((Real.log (1 + Real.exp (-|r|)) : ℝ) : EReal) := by
    rw [val_main_call3_v10_apply, val_main_call3_v9_apply, val_main_call3_v8_apply, val_main_call3_v7_apply, h3]
    show Ideal.log (1 + Ideal.exp (-(max ((r : ℝ) : EReal) (-((r : ℝ) : EReal))))) = _
    rw [abs_coe, ← EReal.coe_neg, exp_coe, ← EReal.coe_one, ← EReal.coe_add, log_coe _ (by positivity)]
  rw [hd, val_main_v66_apply, val_main_v64_apply, h4, val_main_call3_v11_apply, val_main_call3_v1_apply, h10, hr,
    val_main_call3_v0_apply, val_main_call3_cst_apply, val_main_v65_apply, val_main_cst_15_apply]
  simp only [Ideal.ofBits_def, ofBits_0, ofBits_minDeriv, Ideal.maximumf_def, Ideal.addf_def, max_coe, ← EReal.coe_add]
  refine (congrArg (fun a => a + _) (select_zero _ _)).trans ?_
  rw [← EReal.coe_add]
  rfl

end Cert.RefValue

end
-- ==== Proof.RefKnots.lean ====
/- The reference's knots, the differences it takes of them, and the piece it finds a standardized value in. -/
module

public import proofs.«01_k».proof.Proof.RefPar

@[expose] public section

noncomputable section

namespace Cert.RefValue

open Cert.ReferenceIdeal Cert.ReferenceIdeal.Gen Cert.ReferenceIdeal.Read Idealize.ShloMosaic Idealize.ShloMosaic.TcCoe
open Idealize.ShloMosaic.ValueIdx Cert.Flow Cert.Lift Cert.RefOps

/-- A column of -5 put before -5 plus a running sum: the knots. -/
theorem knots_row (A : Vec Ideal S2048x1 .f32) (B : Vec Ideal S2048x8 .f32) (i : S2048x9.Idx) (w : Fin 8 → ℝ)
    (hA : ∀ j, A j = ((-5 : ℝ) : EReal))
    (hB : ∀ j : S2048x8.Idx, j 0 = i 0 → B j = ((-5 + ∑ k : Fin 8, (if k.val ≤ (j 1).val then w k else 0) : ℝ) : EReal)) :
    concatenate S2048x9 1 [⟨S2048x1, A⟩, ⟨S2048x8, B⟩] concatenates_S2048x1_S2048x8_S2048x9_d1 i
      = ((knot w (i 1) : ℝ) : EReal) := by
  have h9 : (i 1).val < 9 := (i 1).isLt
  by_cases h : (i 1).val = 0
  · have e : knot w (i 1) = -5 := (congrArg (knot w) (Fin.ext h : @Eq (Fin 9) (i 1) 0)).trans (knot_zero w)
    rw [e]
    refine (concatenate_pair_apply_left (t := S2048x9) (s₁ := S2048x1) (s₂ := S2048x8) 1 A B
      concatenates_S2048x1_S2048x8_S2048x9_d1 i rfl (ix2 (i 0) (0 : Fin 1)) ?_).trans (hA _)
    intro a
    match a with
    | ⟨0, _⟩ => rfl
    | ⟨1, _⟩ => exact h.symm
  · refine (concatenate_pair_apply_right (t := S2048x9) (s₁ := S2048x1) (s₂ := S2048x8) 1 A B
      concatenates_S2048x1_S2048x8_S2048x9_d1 i rfl rfl (ix2 (i 0) (⟨(i 1).val - 1, by omega⟩ : Fin 8)) ?_ ?_).trans ?_
    · intro a ha
      match a with
      | ⟨0, _⟩ => rfl
      | ⟨1, _⟩ => exact absurd rfl ha
    · show (i 1).val - 1 + 1 = (i 1).val
      omega
    · rw [hB _ rfl]
      unfold knot
      refine congrArg _ (congrArg _ (Finset.sum_congr rfl fun k _ => ?_))
      have hk : k.val ≤ (i 1).val - 1 ↔ k.val < (i 1).val := by omega
      exact if_congr hk rfl rfl

variable {X : Fin 8 → Fin 256 → Fin 8192 → ℝ} {N : Net} {x0 : Vec Ideal S8x8192x256 .f32} {x1 : Vec Ideal S2x32 .f32}
  {x2 : Vec Ideal S32 .f32} {x3 : Vec Ideal S32x25 .f32} {x4 : Vec Ideal S25 .f32}
variable (H : Holds X N x0 x1 x2 x3 x4)

include H

/-- The knots along the first axis. -/
theorem v71_eq (i : S2048x9.Idx) :
    val_main_v71 (F := Ideal) x0 x1 x2 x3 x4 i = ((knot (rowPar X N (i 0)).w (i 1) : ℝ) : EReal) := by
  refine knots_row _ _ i _ (fun j => ?_) (fun j hj => ?_)
  · rw [val_main_v67_apply, val_main_cst_16_apply]
    exact ofBits_neg5
  · rw [val_main_v70_apply, val_main_v69_apply, val_main_cst_17_apply]
    have h68 : val_main_v68 (F := Ideal) x0 x1 x2 x3 x4 j
        = ((∑ k : Fin 8, (if k.val ≤ (j 1).val then (rowPar X N (i 0)).w k else 0) : ℝ) : EReal) := by
      rw [eq_ix2 j]
      exact cumsum_row _ _ (fun _ => ofBits_0) reduceWindows_S2048x8_S2048x8_w1s1p0_0_w8s1p7_0 h_S_ (j 0) (j 1) _
        (fun k => (v48_eq H (ix2 (j 0) k)).trans (by rw [← hj]))
    rw [h68]
    simp only [Ideal.ofBits_def, ofBits_neg5, Ideal.addf_def, ← EReal.coe_add]

/-- The knots along the second axis. -/
theorem v75_eq (i : S2048x9.Idx) :
    val_main_v75 (F := Ideal) x0 x1 x2 x3 x4 i = ((knot (rowPar X N (i 0)).h (i 1) : ℝ) : EReal) := by
  refine knots_row _ _ i _ (fun j => ?_) (fun j hj => ?_)
  · rw [val_main_v67_apply, val_main_cst_16_apply]
    exact ofBits_neg5
  · rw [val_main_v74_apply, val_main_v73_apply, val_main_cst_18_apply]
    have h72 : val_main_v72 (F := Ideal) x0 x1 x2 x3 x4 j
        = ((∑ k : Fin 8, (if k.val ≤ (j 1).val then (rowPar X N (i 0)).h k else 0) : ℝ) : EReal) := by
      rw [eq_ix2 j]
      exact cumsum_row _ _ (fun _ => ofBits_0) reduceWindows_S2048x8_S2048x8_w1s1p0_0_w8s1p7_0 h_S_ (j 0) (j 1) _
        (fun k => (v62_eq H (ix2 (j 0) k)).trans (by rw [← hj]))
    rw [h72]
    simp only [Ideal.ofBits_def, ofBits_neg5, Ideal.addf_def, ← EReal.coe_add]

omit H in
/-- A knot less the one before it is the width between them. -/
theorem knot_sub (w : Fin 8 → ℝ) (j : Fin 8) (a b : Fin 9) (ha : a.val = 1 + j.val) (hb : b.val = j.val) :
    knot w a - knot w b = w j := by
  obtain rfl : a = j.succ := Fin.ext (by rw [ha, Fin.val_succ, add_comm])
  obtain rfl : b = j.castSucc := Fin.ext hb
  rw [knot_succ]; ring

/-- The widths, taken back from the knots. -/
theorem v80_eq (i : S2048x8.Idx) :
    val_main_v80 (F := Ideal) x0 x1 x2 x3 x4 i = (((rowPar X N (i 0)).w (i 1) : ℝ) : EReal) := by
  rw [val_main_v80_apply, val_main_v78_apply, val_main_v79_apply, v71_eq H, v71_eq H]
  simp only [Ideal.subf_def, ← EReal.coe_sub]
  exact congrArg _ (knot_sub _ (i 1) _ _ rfl rfl)

/-- The heights, taken back from the knots. -/
theorem v83_eq (i : S2048x8.Idx) :
    val_main_v83 (F := Ideal) x0 x1 x2 x3 x4 i = (((rowPar X N (i 0)).h (i 1) : ℝ) : EReal) := by
  rw [val_main_v83_apply, val_main_v81_apply, val_main_v82_apply, v75_eq H, v75_eq H]
  simp only [Ideal.subf_def, ← EReal.coe_sub]
  exact congrArg _ (knot_sub _ (i 1) _ _ rfl rfl)

/-- The heights over the widths. -/
theorem v85_eq (i : S2048x8.Idx) :
    val_main_v85 (F := Ideal) x0 x1 x2 x3 x4 i = ((rate (rowPar X N (i 0)) (i 1) : ℝ) : EReal) := by
  rw [val_main_v85_apply, v83_eq H, val_main_v84_apply, v80_eq H, val_main_call6_v1_apply, val_main_call6_v0_apply,
    val_main_cst_19_apply]
  simp only [Ideal.ofBits_def, ofBits_tiny, Ideal.maximumf_def, Ideal.hostDivf_def, max_coe]
  rw [div_coe _ _ (lt_max_of_lt_left tiny_pos).ne', max_comm]
  rfl

/-- The standardized values, one row a column. -/
theorem v77_eq (i : S2048x8192.Idx) :
    val_main_v77 (F := Ideal) x0 i = ((std (rowX X (i 0)) (i 1) : ℝ) : EReal) := by
  have h0 : (i 0).val < 2048 := (i 0).isLt
  have h1 : (i 1).val < 8192 := (i 1).isLt
  have e0 : (idx_main_v77 i) 0 = rowB (i 0) := Fin.ext (by
    show ((i 0).val * 8192 + (i 1).val) / 2097152 = (i 0).val / 256; omega)
  have e1 : (idx_main_v77 i) 1 = rowL (i 0) := Fin.ext (by
    show ((i 0).val * 8192 + (i 1).val) / 8192 % 256 = (i 0).val % 256; omega)
  have e2 : (idx_main_v77 i) 2 = i 1 := Fin.ext (by
    show ((i 0).val * 8192 + (i 1).val) % 8192 = (i 1).val; omega)
  rw [val_main_v77_apply, val_main_v76_apply, v9_eq H.x_eq]
  show ((std (X ((idx_main_v77 i) 0) ((idx_main_v77 i) 1)) ((idx_main_v77 i) 2) : ℝ) : EReal) = _
  rw [e0, e1, e2]

/-- How many knots are at most the standardized value, less one, as a word. -/
theorem v95_eq (n : Fin 2048) (t : Fin 8192) :
    val_main_v95 (F := Ideal) x0 x1 x2 x3 x4 (ix2 n t)
      = BitVec.ofNat 32 (bin (knot (rowPar X N n).w) (std (rowX X n) t)).val := by
  have h91 : ∀ k : Fin 9, val_main_v91 (F := Ideal) x0 x1 x2 x3 x4 (ix3 n k t)
      = BitVec.ofNat 32 (if knot (rowPar X N n).w k ≤ std (rowX X n) t then 1 else 0) := by
    intro k
    rw [val_main_v91_apply, val_main_v90_apply, val_main_v88_apply, val_main_v86_apply, val_main_v89_apply, val_main_v87_apply,
      v71_eq H, v77_eq H]
    show (BitVec.ofBool (decide (((knot (rowPar X N n).w k : ℝ) : EReal) ≤ ((std (rowX X n) t : ℝ) : EReal)))).setWidth 32 = _
    by_cases h : knot (rowPar X N n).w k ≤ std (rowX X n) t
    · rw [if_pos h, decide_eq_true (EReal.coe_le_coe_iff.2 h)]; rfl
    · rw [if_neg h, decide_eq_false (fun c => h (EReal.coe_le_coe_iff.1 c))]; rfl
  have h92 : val_main_v92 (F := Ideal) x0 x1 x2 x3 x4 (ix2 n t)
      = BitVec.ofNat 32 (∑ k : Fin 9, if knot (rowPar X N n).w k ≤ std (rowX X n) t then 1 else 0) :=
    count_col _ _ (fun _ => rfl) (by decide) reducesTo_S2048x9x8192_S2048x8192_d1 h_S_ n t _ h91
  rw [val_main_v95_apply, val_main_call7_v2_apply, val_main_v94_apply, h92, val_main_v93_apply, val_main_c_21_apply,
    val_main_call7_v4_apply, val_main_call7_v3_apply, val_main_c_23_apply, val_main_call7_v1_apply, val_main_call7_v0_apply,
    val_main_c_22_apply, ← bin_eq_count _ (par_w_pos _ _ _)]
  refine bin_word _ ?_
  calc (∑ k : Fin 9, if knot (rowPar X N n).w k ≤ std (rowX X n) t then 1 else 0)
      ≤ ∑ _k : Fin 9, 1 := Finset.sum_le_sum fun k _ => by split <;> omega
    _ = 9 := by simp

omit H in
/-- The piece's number is in its range wherever it is read. -/
theorem v95_range (i : S2048x8192.Idx) : ∃ k, k ≤ 7 ∧ val_main_v95 (F := Ideal) x0 x1 x2 x3 x4 i = BitVec.ofNat 32 k := by
  rw [val_main_v95_apply, val_main_call7_v2_apply]
  exact clamp_word 7 (by norm_num) _

omit H in
/-- The number of the knot after it likewise. -/
theorem v102_range (i : S2048x8192.Idx) : ∃ k, k ≤ 8 ∧ val_main_v102 (F := Ideal) x0 x1 x2 x3 x4 i = BitVec.ofNat 32 k := by
  obtain ⟨k, hk, e⟩ := v95_range (x0 := x0) (x1 := x1) (x2 := x2) (x3 := x3) (x4 := x4) i
  rw [val_main_v102_apply, val_main_v101_apply, e]
  exact ⟨k + 1, by omega, next_word k hk⟩

/-- The knot after the piece's. -/
theorem v102_eq (n : Fin 2048) (t : Fin 8192) :
    val_main_v102 (F := Ideal) x0 x1 x2 x3 x4 (ix2 n t)
      = BitVec.ofNat 32 (bin (knot (rowPar X N n).w) (std (rowX X n) t)).succ.val := by
  rw [val_main_v102_apply, val_main_v101_apply, v95_eq H]
  exact next_word _ (by omega)

end Cert.RefValue

end
-- ==== Proof.RefValue.lean ====
/- The reference's result: at the ideal numbers, for arrays that hold real numbers, every entry is the number its
   column's value becomes. -/
module

public import proofs.«01_k».proof.Proof.RefKnots

@[expose] public section

noncomputable section

namespace Cert.RefValue

open Cert.ReferenceIdeal Cert.ReferenceIdeal.Gen Cert.ReferenceIdeal.Read Idealize.ShloMosaic Idealize.ShloMosaic.TcCoe
open Idealize.ShloMosaic.ValueIdx Cert.Flow Cert.Lift Cert.RefOps

/-- Where a row of column numbers, made a box of one lane, is read. -/
theorem line_idx (r : Fin 2048) (t : Fin 8192) (u : Fin 1) : idx_main_call8_v5 (ix3 r t u) = ix2 r t := by
  funext a
  refine Fin.ext ?_
  match a with
  | ⟨0, _⟩ => show ((r.val * 8192 + t.val) * 1 + u.val) / 8192 = r.val; omega
  | ⟨1, _⟩ => show ((r.val * 8192 + t.val) * 1 + u.val) % 8192 = t.val; omega

variable {X : Fin 8 → Fin 256 → Fin 8192 → ℝ} {N : Net} {x0 : Vec Ideal S8x8192x256 .f32} {x1 : Vec Ideal S2x32 .f32}
  {x2 : Vec Ideal S32 .f32} {x3 : Vec Ideal S32x25 .f32} {x4 : Vec Ideal S25 .f32}

/-- The piece that holds a row's standardized value. -/
abbrev rowBin (X : Fin 8 → Fin 256 → Fin 8192 → ℝ) (N : Net) (n : Fin 2048) (t : Fin 8192) : Fin 8 :=
  bin (knot (rowPar X N n).w) (std (rowX X n) t)

variable (H : Holds X N x0 x1 x2 x3 x4)

include H

/-- An array of eight numbers a row, read at the piece that holds the value. -/
theorem take_piece (V : Vec Ideal S2048x8 .f32) (f : Fin 2048 → Fin 8 → ℝ) (hV : ∀ j, V j = ((f (j 0) (j 1) : ℝ) : EReal))
    (n : Fin 2048) (t : Fin 8192) (other : EReal) :
    Scalar.select (val_main_call8_v12 (F := Ideal) x0 x1 x2 x3 x4 (ix2 n t))
      (Host.gather gather_S2048x8_S2048x8192x1_S2048x8192_n_1_0_0_1_2_11 V (val_main_call8_v5 (F := Ideal) x0 x1 x2 x3 x4) (ix2 n t))
      other = ((f n (rowBin X N n t) : ℝ) : EReal) := by
  have h5 : ∀ (r : Fin 2048) (t : Fin 8192) (u : Fin 1), val_main_call8_v5 (F := Ideal) x0 x1 x2 x3 x4 (ix3 r t u)
      = Scalar.select (IntOp.cmpi .slt (val_main_v95 (F := Ideal) x0 x1 x2 x3 x4 (ix2 r t)) 0#32)
        (IntOp.addi (val_main_v95 (F := Ideal) x0 x1 x2 x3 x4 (ix2 r t)) 8#32)
        (val_main_v95 (F := Ideal) x0 x1 x2 x3 x4 (ix2 r t)) := by
    intro r t u
    rw [val_main_call8_v5_apply, show idx_main_call8_v5 (ix3 r t u) = ix2 r t from line_idx r t u, val_main_call8_v4_apply,
      val_main_call8_v1_apply, val_main_call8_v3_apply, val_main_call8_v0_apply, val_main_call8_v2_apply,
      val_main_call8_c_apply, val_main_call8_c_0_apply]
  have h11 : ∀ j, val_main_call8_v11 (F := Ideal) x0 x1 x2 x3 x4 j
      = IntOp.andi (IntOp.cmpi .sge (val_main_call8_v5 (F := Ideal) x0 x1 x2 x3 x4 j) 0#32)
        (IntOp.cmpi .sle (val_main_call8_v5 (F := Ideal) x0 x1 x2 x3 x4 j) (BitVec.ofNat 32 7)) := by
    intro j
    rw [val_main_call8_v11_apply, val_main_call8_v7_apply, val_main_call8_v10_apply, val_main_call8_v6_apply,
      val_main_call8_v9_apply, val_main_call8_v8_apply, val_main_call8_c_2_apply, val_main_call8_c_1_apply]
  unfold val_main_call8_v12 gather_S2048x8_S2048x8192x1_S2048x8192_n_1_0_0_1_2_11
  have e := take_row 7 rfl (by norm_num) gather_S2048x8_S2048x8192x1_S2048x8192_n_1_0_0_1_2_11_wf 8#32 V
    (val_main_v95 (F := Ideal) x0 x1 x2 x3 x4) _ _ v95_range h5 h11
    (val_main_call8_c_3 (F := Ideal)) (fun _ => rfl) reducesTo_S2048x8192x1_S2048x8192_d2 h_S_ n t (rowBin X N n t) (v95_eq H n t) other
  exact e.trans (hV _)

/-- An array of nine numbers a row, read at the piece's left knot. -/
theorem take_left (V : Vec Ideal S2048x9 .f32) (f : Fin 2048 → Fin 9 → ℝ) (hV : ∀ j, V j = ((f (j 0) (j 1) : ℝ) : EReal))
    (n : Fin 2048) (t : Fin 8192) (other : EReal) :
    Scalar.select (val_main_call11_v12 (F := Ideal) x0 x1 x2 x3 x4 (ix2 n t))
      (Host.gather gather_S2048x9_S2048x8192x1_S2048x8192_n_1_0_0_1_2_11 V (val_main_call11_v5 (F := Ideal) x0 x1 x2 x3 x4) (ix2 n t))
      other = ((f n (rowBin X N n t).castSucc : ℝ) : EReal) := by
  have h5 : ∀ (r : Fin 2048) (t : Fin 8192) (u : Fin 1), val_main_call11_v5 (F := Ideal) x0 x1 x2 x3 x4 (ix3 r t u)
      = Scalar.select (IntOp.cmpi .slt (val_main_v95 (F := Ideal) x0 x1 x2 x3 x4 (ix2 r t)) 0#32)
        (IntOp.addi (val_main_v95 (F := Ideal) x0 x1 x2 x3 x4 (ix2 r t)) 9#32)
        (val_main_v95 (F := Ideal) x0 x1 x2 x3 x4 (ix2 r t)) := by
    intro r t u
    rw [val_main_call11_v5_apply, show idx_main_call11_v5 (ix3 r t u) = ix2 r t from line_idx r t u, val_main_call11_v4_apply,
      val_main_call11_v1_apply, val_main_call11_v3_apply, val_main_call11_v0_apply, val_main_call11_v2_apply,
      val_main_call11_c_apply, val_main_call11_c_0_apply]
  have h11 : ∀ j, val_main_call11_v11 (F := Ideal) x0 x1 x2 x3 x4 j
      = IntOp.andi (IntOp.cmpi .sge (val_main_call11_v5 (F := Ideal) x0 x1 x2 x3 x4 j) 0#32)
        (IntOp.cmpi .sle (val_main_call11_v5 (F := Ideal) x0 x1 x2 x3 x4 j) (BitVec.ofNat 32 8)) := by
    intro j
    rw [val_main_call11_v11_apply, val_main_call11_v7_apply, val_main_call11_v10_apply, val_main_call11_v6_apply,
      val_main_call11_v9_apply, val_main_call11_v8_apply, val_main_call11_c_2_apply, val_main_call11_c_1_apply]
  unfold val_main_call11_v12 gather_S2048x9_S2048x8192x1_S2048x8192_n_1_0_0_1_2_11
  have e := take_row 8 rfl (by norm_num) gather_S2048x9_S2048x8192x1_S2048x8192_n_1_0_0_1_2_11_wf 9#32 V
    (val_main_v95 (F := Ideal) x0 x1 x2 x3 x4) _ _ (fun i => (v95_range i).imp fun _ h => ⟨h.1.trans (by norm_num), h.2⟩) h5 h11
    (val_main_call11_c_3 (F := Ideal)) (fun _ => rfl) reducesTo_S2048x8192x1_S2048x8192_d2 h_S_ n t (rowBin X N n t).castSucc (v95_eq H n t) other
  exact e.trans (hV _)

/-- An array of nine numbers a row, read at the piece's right knot. -/
theorem take_right (V : Vec Ideal S2048x9 .f32) (f : Fin 2048 → Fin 9 → ℝ) (hV : ∀ j, V j = ((f (j 0) (j 1) : ℝ) : EReal))
    (n : Fin 2048) (t : Fin 8192) (other : EReal) :
    Scalar.select (val_main_call13_v12 (F := Ideal) x0 x1 x2 x3 x4 (ix2 n t))
      (Host.gather gather_S2048x9_S2048x8192x1_S2048x8192_n_1_0_0_1_2_11 V (val_main_call13_v5 (F := Ideal) x0 x1 x2 x3 x4) (ix2 n t))
      other = ((f n (rowBin X N n t).succ : ℝ) : EReal) := by
  have h5 : ∀ (r : Fin 2048) (t : Fin 8192) (u : Fin 1), val_main_call13_v5 (F := Ideal) x0 x1 x2 x3 x4 (ix3 r t u)
      = Scalar.select (IntOp.cmpi .slt (val_main_v102 (F := Ideal) x0 x1 x2 x3 x4 (ix2 r t)) 0#32)
        (IntOp.addi (val_main_v102 (F := Ideal) x0 x1 x2 x3 x4 (ix2 r t)) 9#32)
        (val_main_v102 (F := Ideal) x0 x1 x2 x3 x4 (ix2 r t)) := by
    intro r t u
    rw [val_main_call13_v5_apply, show idx_main_call13_v5 (ix3 r t u) = ix2 r t from line_idx r t u, val_main_call13_v4_apply,
      val_main_call13_v1_apply, val_main_call13_v3_apply, val_main_call13_v0_apply, val_main_call13_v2_apply,
      val_main_call13_c_apply, val_main_call13_c_0_apply]
  have h11 : ∀ j, val_main_call13_v11 (F := Ideal) x0 x1 x2 x3 x4 j
      = IntOp.andi (IntOp.cmpi .sge (val_main_call13_v5 (F := Ideal) x0 x1 x2 x3 x4 j) 0#32)
        (IntOp.cmpi .sle (val_main_call13_v5 (F := Ideal) x0 x1 x2 x3 x4 j) (BitVec.ofNat 32 8)) := by
    intro j
    rw [val_main_call13_v11_apply, val_main_call13_v7_apply, val_main_call13_v10_apply, val_main_call13_v6_apply,
      val_main_call13_v9_apply, val_main_call13_v8_apply, val_main_call13_c_2_apply, val_main_call13_c_1_apply]
  unfold val_main_call13_v12 gather_S2048x9_S2048x8192x1_S2048x8192_n_1_0_0_1_2_11
  have e := take_row 8 rfl (by norm_num) gather_S2048x9_S2048x8192x1_S2048x8192_n_1_0_0_1_2_11_wf 9#32 V
    (val_main_v102 (F := Ideal) x0 x1 x2 x3 x4) _ _ v102_range h5 h11
    (val_main_call13_c_3 (F := Ideal)) (fun _ => rfl) reducesTo_S2048x8192x1_S2048x8192_d2 h_S_ n t (rowBin X N n t).succ (v102_eq H n t) other
  exact e.trans (hV _)

/-- The piece's width. -/
theorem v96_eq (n : Fin 2048) (t : Fin 8192) :
    val_main_v96 (F := Ideal) x0 x1 x2 x3 x4 (ix2 n t) = (((rowPar X N n).w (rowBin X N n t) : ℝ) : EReal) := by
  rw [val_main_v96_apply]
  unfold val_main_call8_v13
  exact take_piece H _ (fun r => (rowPar X N r).w) (v80_eq H) n t _

/-- The piece's height. -/
theorem v97_eq (n : Fin 2048) (t : Fin 8192) :
    val_main_v97 (F := Ideal) x0 x1 x2 x3 x4 (ix2 n t) = (((rowPar X N n).h (rowBin X N n t) : ℝ) : EReal) := by
  have e5 : val_main_call9_v5 (F := Ideal) x0 x1 x2 x3 x4 = val_main_call8_v5 (F := Ideal) x0 x1 x2 x3 x4 := rfl
  have e12 : val_main_call9_v12 (F := Ideal) x0 x1 x2 x3 x4 = val_main_call8_v12 (F := Ideal) x0 x1 x2 x3 x4 := rfl
  rw [val_main_v97_apply, e12]
  unfold val_main_call9_v13
  rw [e5]
  exact take_piece H _ (fun r => (rowPar X N r).h) (v83_eq H) n t _

/-- The piece's height over its width. -/
theorem v98_eq (n : Fin 2048) (t : Fin 8192) :
    val_main_v98 (F := Ideal) x0 x1 x2 x3 x4 (ix2 n t) = ((rate (rowPar X N n) (rowBin X N n t) : ℝ) : EReal) := by
  have e5 : val_main_call10_v5 (F := Ideal) x0 x1 x2 x3 x4 = val_main_call8_v5 (F := Ideal) x0 x1 x2 x3 x4 := rfl
  have e12 : val_main_call10_v12 (F := Ideal) x0 x1 x2 x3 x4 = val_main_call8_v12 (F := Ideal) x0 x1 x2 x3 x4 := rfl
  rw [val_main_v98_apply, e12]
  unfold val_main_call10_v13
  rw [e5]
  exact take_piece H _ (fun r => rate (rowPar X N r)) (v85_eq H) n t _

/-- The slope at the piece's left knot. -/
theorem v99_eq (n : Fin 2048) (t : Fin 8192) :
    val_main_v99 (F := Ideal) x0 x1 x2 x3 x4 (ix2 n t) = (((rowPar X N n).d (rowBin X N n t).castSucc : ℝ) : EReal) := by
  rw [val_main_v99_apply]
  unfold val_main_call11_v13
  exact take_left H _ (fun r => (rowPar X N r).d) (v66_eq H) n t _

/-- The slope at its right knot. -/
theorem v103_eq (n : Fin 2048) (t : Fin 8192) :
    val_main_v103 (F := Ideal) x0 x1 x2 x3 x4 (ix2 n t) = (((rowPar X N n).d (rowBin X N n t).succ : ℝ) : EReal) := by
  rw [val_main_v103_apply]
  unfold val_main_call13_v13
  exact take_right H _ (fun r => (rowPar X N r).d) (v66_eq H) n t _

/-- Its left knot along the first axis. -/
theorem v104_eq (n : Fin 2048) (t : Fin 8192) :
    val_main_v104 (F := Ideal) x0 x1 x2 x3 x4 (ix2 n t) = ((knot (rowPar X N n).w (rowBin X N n t).castSucc : ℝ) : EReal) := by
  have e5 : val_main_call14_v5 (F := Ideal) x0 x1 x2 x3 x4 = val_main_call11_v5 (F := Ideal) x0 x1 x2 x3 x4 := rfl
  have e12 : val_main_call14_v12 (F := Ideal) x0 x1 x2 x3 x4 = val_main_call11_v12 (F := Ideal) x0 x1 x2 x3 x4 := rfl
  rw [val_main_v104_apply, e12]
  unfold val_main_call14_v13
  rw [e5]
  exact take_left H _ (fun r => knot (rowPar X N r).w) (v71_eq H) n t _

/-- Its left knot along the second axis. -/
theorem v105_eq (n : Fin 2048) (t : Fin 8192) :
    val_main_v105 (F := Ideal) x0 x1 x2 x3 x4 (ix2 n t) = ((knot (rowPar X N n).h (rowBin X N n t).castSucc : ℝ) : EReal) := by
  have e5 : val_main_call15_v5 (F := Ideal) x0 x1 x2 x3 x4 = val_main_call11_v5 (F := Ideal) x0 x1 x2 x3 x4 := rfl
  have e12 : val_main_call15_v12 (F := Ideal) x0 x1 x2 x3 x4 = val_main_call11_v12 (F := Ideal) x0 x1 x2 x3 x4 := rfl
  rw [val_main_v105_apply, e12]
  unfold val_main_call15_v13
  rw [e5]
  exact take_left H _ (fun r => knot (rowPar X N r).h) (v75_eq H) n t _

/-- Where the value is within the piece. -/
theorem v109_eq (n : Fin 2048) (t : Fin 8192) :
    val_main_v109 (F := Ideal) x0 x1 x2 x3 x4 (ix2 n t)
      = ((zeta (rowPar X N n) (std (rowX X n) t) (rowBin X N n t) : ℝ) : EReal) := by
  have h108 : val_main_v108 (F := Ideal) x0 x1 x2 x3 x4 (ix2 n t)
      = (((std (rowX X n) t - knot (rowPar X N n).w (rowBin X N n t).castSucc) / max ((rowPar X N n).w (rowBin X N n t)) tiny : ℝ) : EReal) := by
    rw [val_main_v108_apply, val_main_v106_apply, v104_eq H, v77_eq H, val_main_v107_apply, v96_eq H]
    rw [val_main_call16_v1_apply, val_main_call16_v0_apply, val_main_cst_26_apply]
    simp only [Ideal.ofBits_def, ofBits_tiny, Ideal.maximumf_def, Ideal.hostDivf_def, Ideal.subf_def, max_coe, ← EReal.coe_sub]
    rw [div_coe _ _ (lt_max_of_lt_left tiny_pos).ne', max_comm]
  rw [val_main_v109_apply, val_main_call17_v2_apply, h108, val_main_call17_v1_apply, val_main_call17_v0_apply, val_main_cst_27_apply,
    val_main_call17_v4_apply, val_main_call17_v3_apply, val_main_cst_28_apply]
  simp only [Ideal.ofBits_def, ofBits_1, ofBits_0, Ideal.maximumf_def, Ideal.minimumf_def, max_coe, min_coe]
  rw [min_comm, max_comm]
  rfl

/-- The spline's value on the piece. -/
theorem v129_eq (n : Fin 2048) (t : Fin 8192) :
    val_main_v129 (F := Ideal) x0 x1 x2 x3 x4 (ix2 n t)
      = ((piece (rowPar X N n) (std (rowX X n) t) (rowBin X N n t) : ℝ) : EReal) := by
  have h113 : val_main_v113 (F := Ideal) (ix2 n t) = ((1 : ℝ) : EReal) := ofBits_1
  have h123 : val_main_v123 (F := Ideal) (ix2 n t) = ((1 : ℝ) : EReal) := ofBits_1
  have h119 : val_main_v119 (F := Ideal) (ix2 n t) = ((2 : ℝ) : EReal) := ofBits_2
  have h127 : val_main_v127 (F := Ideal) x0 x1 x2 x3 x4 (ix2 n t)
      = max ((tiny : ℝ) : EReal) (val_main_v126 (F := Ideal) x0 x1 x2 x3 x4 (ix2 n t)) := by
    rw [val_main_v127_apply, val_main_call18_v1_apply, val_main_call18_v0_apply, val_main_cst_32_apply]
    simp only [Ideal.ofBits_def, ofBits_tiny, Ideal.maximumf_def]
  rw [val_main_v129_apply, val_main_v128_apply, h127, val_main_v117_apply, val_main_v116_apply, val_main_v111_apply,
    val_main_v110_apply, val_main_v115_apply, val_main_v112_apply, val_main_v114_apply, val_main_v126_apply, val_main_v125_apply,
    val_main_v122_apply, val_main_v121_apply, val_main_v120_apply, val_main_v118_apply, val_main_v124_apply, h113, h123, h119,
    v109_eq H, v97_eq H, v98_eq H, v99_eq H, v103_eq H, v105_eq H]
  simp only [Ideal.mulf_def, Ideal.addf_def, Ideal.subf_def, Ideal.hostDivf_def, ← EReal.coe_mul, ← EReal.coe_add, ← EReal.coe_sub, max_coe]
  rw [div_coe _ _ (lt_max_of_lt_left tiny_pos).ne', ← EReal.coe_add, max_comm, ← pow_two]
  rfl

/-- The flow, one row a column. -/
theorem v135_eq (n : Fin 2048) (t : Fin 8192) :
    val_main_v135 (F := Ideal) x0 x1 x2 x3 x4 (ix2 n t) = ((result N (rowX X n) t : ℝ) : EReal) := by
  have h77 := v77_eq H (ix2 n t)
  have h131 : val_main_v131 (F := Ideal) x0 (ix2 n t) = BitVec.ofBool (decide (std (rowX X n) t < -5)) := by
    rw [val_main_v131_apply, h77]
    show BitVec.ofBool (decide (((std (rowX X n) t : ℝ) : EReal) < Ideal.ofBits .f32 0xC0A00000#32)) = _
    rw [ofBits_neg5, decide_eq_decide.2 EReal.coe_lt_coe_iff]
  have h133 : val_main_v133 (F := Ideal) x0 (ix2 n t) = BitVec.ofBool (decide (5 < std (rowX X n) t)) := by
    rw [val_main_v133_apply, h77]
    show BitVec.ofBool (decide (Ideal.ofBits .f32 0x40A00000#32 < ((std (rowX X n) t : ℝ) : EReal))) = _
    rw [ofBits_5, decide_eq_decide.2 EReal.coe_lt_coe_iff]
  have h134 : val_main_v134 (F := Ideal) x0 (ix2 n t)
      = BitVec.ofBool (decide (std (rowX X n) t < -5 ∨ 5 < std (rowX X n) t)) := by
    rw [val_main_v134_apply, h131, h133]
    by_cases a : std (rowX X n) t < -5 <;> by_cases b : 5 < std (rowX X n) t <;> simp [a, b, IntOp.ori]
  rw [val_main_v135_apply, h134, h77, v129_eq H]
  unfold result flow
  by_cases h : std (rowX X n) t < -5 ∨ 5 < std (rowX X n) t
  · rw [if_pos h, decide_eq_true h]
    exact select_one _ _
  · rw [if_neg h, decide_eq_false h]
    exact select_zero _ _

/-- THE REFERENCE'S RESULT: every entry is the number its column's value becomes. -/
theorem v137_eq (i : S8x8192x256.Idx) :
    val_main_v137 (F := Ideal) x0 x1 x2 x3 x4 i = ((result N (X (i 0) (i 2)) (i 1) : ℝ) : EReal) := by
  have h0 : (i 0).val < 8 := (i 0).isLt
  have h1 : (i 1).val < 8192 := (i 1).isLt
  have h2 : (i 2).val < 256 := (i 2).isLt
  have e : idx_main_v136 (idx_main_v137 i) = ix2 (⟨(i 0).val * 256 + (i 2).val, by omega⟩ : Fin 2048) (i 1) := by
    funext a
    refine Fin.ext ?_
    match a with
    | ⟨0, _⟩ => show (((i 0).val * 256 + (i 2).val) * 8192 + (i 1).val) / 8192 = (i 0).val * 256 + (i 2).val; omega
    | ⟨1, _⟩ => show (((i 0).val * 256 + (i 2).val) * 8192 + (i 1).val) % 8192 = (i 1).val; omega
  have eX : rowX X (⟨(i 0).val * 256 + (i 2).val, by omega⟩ : Fin 2048) = X (i 0) (i 2) := by
    have a : rowB (⟨(i 0).val * 256 + (i 2).val, by omega⟩ : Fin 2048) = i 0 := Fin.ext (by
      show ((i 0).val * 256 + (i 2).val) / 256 = _; omega)
    have b : rowL (⟨(i 0).val * 256 + (i 2).val, by omega⟩ : Fin 2048) = i 2 := Fin.ext (by
      show ((i 0).val * 256 + (i 2).val) % 256 = _; omega)
    unfold rowX
    rw [a, b]
  rw [val_main_v137_apply, val_main_v136_apply, e]
  exact (v135_eq H _ (i 1)).trans (by rw [eX])

end Cert.RefValue

end
-- ==== Proof.Finite.lean ====
/- What the precondition says: every element of the five arguments is a real number. -/
module

public import proofs.«01_k».proof.Pre_finite
public import Idealize.ShloMosaic.Lib.ReduceAll
public import Idealize.ShloMosaic.PureOps.Ideal
public import proofs.«01_k».proof.Proof.Lift

@[expose] public section

noncomputable section

namespace Cert.Pre_finite

open Idealize.ShloMosaic

/-- The side conditions the predicate's operations take. -/
instance facts : Facts where
  bcast_S_S8x8192x256 := by decide
  reducesTo_S8x8192x256_S_d0_1_2 := by decide
  h_S_ := by decide
  bcast_S_S2x32 := by decide
  reducesTo_S2x32_S_d0_1 := by decide
  bcast_S_S32 := by decide
  reducesTo_S32_S_d0 := by decide
  bcast_S_S32x25 := by decide
  reducesTo_S32x25_S_d0_1 := by decide
  bcast_S_S25 := by decide
  reducesTo_S25_S_d0 := by decide

/-- The word the predicate compares with is infinity. -/
theorem ofBits_inf : Ideal.ofBits .f32 0x7F800000#32 = (⊤ : EReal) := by
  simp [Ideal.ofBits, Ideal.ieee]

/-- A number whose absolute value is below infinity is real. -/
theorem real_of_abs_lt (a : EReal) (h : max a (-a) < ⊤) : a = ((a.toReal : ℝ) : EReal) := by
  refine (EReal.coe_toReal ?_ ?_).symm
  · rintro rfl
    simp at h
  · rintro rfl
    simp at h

/-- The conjunction over an array that each element's absolute value is below infinity makes every element real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : x i = (((x i).toReal : ℝ) : EReal) := by
  have : Subsingleton S_.Idx := ⟨fun a b => funext fun k => k.elim0⟩
  have h := Host.reduce_andi_all _ _ hr hu j e i
  refine real_of_abs_lt (x i) ?_
  have h' : BitVec.ofBool (decide (max (x i) (-(x i)) < Ideal.ofBits .f32 0x7F800000#32)) = 1#1 := h
  rw [ofBits_inf] at h'
  by_contra hc
  rw [decide_eq_false hc] at h'
  exact absurd h' (by decide)

/-- Under the precondition every element of every argument is real. -/
theorem real_of_pre (x0 : FVec Ideal S8x8192x256 .f32) (x1 : FVec Ideal S2x32 .f32) (x2 : FVec Ideal S32 .f32)
    (x3 : FVec Ideal S32x25 .f32) (x4 : FVec Ideal S25 .f32) (h : fn (F := Ideal) x0 x1 x2 x3 x4 = fun _ => 1#1) :
    (∀ i, x0 i = (((x0 i).toReal : ℝ) : EReal)) ∧ (∀ i, x1 i = (((x1 i).toReal : ℝ) : EReal))
    ∧ (∀ i, x2 i = (((x2 i).toReal : ℝ) : EReal)) ∧ (∀ i, x3 i = (((x3 i).toReal : ℝ) : EReal))
    ∧ (∀ i, x4 i = (((x4 i).toReal : ℝ) : EReal)) := by
  have e := congrFun h fun k : Fin 0 => k.elim0
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3,
    real_of_all x4 _ _ _ _ e4⟩

end Cert.Pre_finite

end
-- ==== Proof.lean ====
/- THE CLAIM: the kernel runs, its idealization runs and the reference runs, each leaving its arguments as they were and
   every semaphore at zero; and at every finite input the idealized kernel and the idealized reference end with the same
   result, as extended reals, entry by entry. Both results are the function `Flow.result` of Proof/Spec.lean: for the kernel by
   Proof/KernelArray.lean, for the reference by Proof/RefValue.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.KernelArray
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem

/-- Every initial memory runs the reference to completion, with its arguments unchanged and every semaphore at zero. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

section
open Cert.KernelIdeal (nD τ sig)

variable (m : (ℓ : Loc nD τ sig) → Buf (Elt Ideal) ℓ) (c : Dev nD)

/-- The network's real numbers, read off the four weight arrays of a device. -/
def netOf : Flow.Net where
  W1 a b := EReal.toReal (m ((c.tc : Thread nD τ).loc Cert.KernelIdeal.main_arg1) (ValueIdx.ix2 a b))
  b1 a := EReal.toReal (m ((c.tc : Thread nD τ).loc Cert.KernelIdeal.main_arg2) (ValueIdx.ix1 a))
  W2 a b := EReal.toReal (m ((c.tc : Thread nD τ).loc Cert.KernelIdeal.main_arg3) (ValueIdx.ix2 a b))
  b2 a := EReal.toReal (m ((c.tc : Thread nD τ).loc Cert.KernelIdeal.main_arg4) (ValueIdx.ix1 a))

/-- The columns' real numbers: batch entry, lane, time. -/
def columnsOf (b : Fin 8) (l : Fin 256) (t : Fin 8192) : ℝ :=
  EReal.toReal (m ((c.tc : Thread nD τ).loc Cert.KernelIdeal.main_arg0) (ValueIdx.ix3 b t l))

/-- The result both programs end with on a device. -/
def value : Buf (Elt Ideal) ((c.tc : Thread nD τ).loc Cert.KernelIdeal.main_v0) :=
  fun i : Cert.KernelIdeal.S8x8192x256.Idx => ((Flow.result (netOf m c) (columnsOf m c (i 0) (i 2)) (i 1) : ℝ) : EReal)

/-- The kernel's result array is that value, the arguments being finite. -/
theorem kernel_value (hpre : Pre_KernelIdeal_finite m) : (Cert.KernelIdeal.Gen.dats m 0 c).arrAt 5 Cert.KernelIdeal.cfg0.N = value m c := by
  obtain ⟨h0, h1, h2, h3, h4⟩ := Cert.Pre_finite.real_of_pre _ _ _ _ _ (hpre c)
  exact Cert.KernelValue.array_eq m c (netOf m c) (columnsOf m c)
    ⟨fun _ _ => h1 _, fun _ => h2 _, fun _ _ => h3 _, fun _ => h4 _⟩ fun _ _ _ => h0 _

/-- The reference's result at the same arguments is that value too. -/
theorem reference_value (hpre : Pre_KernelIdeal_finite m) :
    Cert.ReferenceIdeal.Read.val_main_v137 (F := Ideal) (m ((c.tc : Thread nD τ).loc Cert.KernelIdeal.main_arg0))
      (m ((c.tc : Thread nD τ).loc Cert.KernelIdeal.main_arg1)) (m ((c.tc : Thread nD τ).loc Cert.KernelIdeal.main_arg2))
      (m ((c.tc : Thread nD τ).loc Cert.KernelIdeal.main_arg3)) (m ((c.tc : Thread nD τ).loc Cert.KernelIdeal.main_arg4)) = value m c := by
  obtain ⟨h0, h1, h2, h3, h4⟩ := Cert.Pre_finite.real_of_pre _ _ _ _ _ (hpre c)
  funext i
  refine Cert.RefValue.v137_eq (X := columnsOf m c) (N := netOf m c) ⟨fun i => ?_, fun i => ?_, fun i => ?_, fun i => ?_, fun i => ?_⟩ i
  · rw [ValueIdx.eq_ix3 i]; exact h0 _
  · rw [ValueIdx.eq_ix2 i]; exact h1 _
  · rw [ValueIdx.eq_ix1 i]; exact h2 _
  · rw [ValueIdx.eq_ix2 i]; exact h3 _
  · rw [ValueIdx.eq_ix1 i]; exact h4 _

end

/-- THE VALUE CLAIM: at finite arguments both programs end with the same result. -/
theorem same_value : Cert.algebraic_KernelIdeal_ReferenceIdeal_pre_finite := by
  intro m g m' g' hpre hargs
  refine ⟨value m, ?_, ?_⟩
  · exact (θ_run Cert.KernelIdeal.defs _ _).mono (fun r h c => ⟨(h c).1.trans (kernel_value m c hpre), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨a0, a1, a2, a3, a4⟩ := hargs c
    refine (Cert.ReferenceIdeal.Read.val_main_v137_eq (F := Ideal) (StableHlo.launchContents m' c)).trans ?_
    rw [StableHlo.launchContents_devRef, StableHlo.launchContents_devRef, StableHlo.launchContents_devRef,
      StableHlo.launchContents_devRef, StableHlo.launchContents_devRef, a0, a1, a2, a3, a4]
    exact reference_value m c hpre

/-- The whole claim. -/
theorem claim : Cert.Claim :=
  ⟨Cert.Kernel.Gen.facts, Cert.KernelIdeal.Gen.facts, Cert.ReferenceIdeal.Gen.facts, Cert.Pre_finite.facts,
    fun m ρ _ => Cert.Kernel.Gen.frame (F := Bits) m ρ,
    fun m ρ _ => Cert.KernelIdeal.Gen.frame (F := Ideal) m ρ,
    fun m ρ _ => Cert.KernelIdeal.Gen.frame (F := Ideal) m ρ,
    frame_reference,
    fun m ρ _ => frame_reference m ρ trivial,
    trivial,
    same_value⟩

end Cert.Proof

end
